-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_categories [hPre_binary_categories : Cert.Pre_binary_categories.Facts] (m : (ℓ : Loc Cert.KernelIdeal.nD Cert.KernelIdeal.τ Cert.KernelIdeal.sig) → Buf (Elt Ideal) ℓ) : Prop :=
  ∀ c : Dev Cert.KernelIdeal.nD,
    (Cert.Pre_binary_categories.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_categories [hPre_binary_categories : Cert.Pre_binary_categories.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_categories.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_binary_categories [hKernelIdeal : Cert.KernelIdeal.Facts] [hPre_binary_categories : Cert.Pre_binary_categories.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_categories m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_binary_categories [hReferenceIdeal : Cert.ReferenceIdeal.Facts] [hPre_binary_categories : Cert.Pre_binary_categories.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_categories m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_binary_categories [hKernelIdeal : Cert.KernelIdeal.Facts] [hReferenceIdeal : Cert.ReferenceIdeal.Facts] [hPre_binary_categories : Cert.Pre_binary_categories.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_categories m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_binary_categories : Cert.Pre_binary_categories.Facts),
    quiescent_Kernel (hKernel := hKernel)
    ∧ quiescent_KernelIdeal (hKernelIdeal := hKernelIdeal)
    ∧ quiescent_KernelIdeal_pre_binary_categories (hKernelIdeal := hKernelIdeal) (hPre_binary_categories := hPre_binary_categories)
    ∧ quiescent_ReferenceIdeal (hReferenceIdeal := hReferenceIdeal)
    ∧ quiescent_ReferenceIdeal_pre_binary_categories (hReferenceIdeal := hReferenceIdeal) (hPre_binary_categories := hPre_binary_categories)
    ∧ preserves_Kernel_KernelIdeal
    ∧ algebraic_KernelIdeal_ReferenceIdeal_pre_binary_categories (hKernelIdeal := hKernelIdeal) (hReferenceIdeal := hReferenceIdeal) (hPre_binary_categories := hPre_binary_categories)
-- ==== Pre_binary_categories.lean ====
abbrev S100000x21 : Shape := ⟨2, ![100000, 21]⟩
abbrev S100000x16x1 : Shape := ⟨3, ![100000, 16, 1]⟩
abbrev S100000x16 : Shape := ⟨2, ![100000, 16]⟩
abbrev S5x128 : Shape := ⟨2, ![5, 128]⟩
abbrev S6x128 : Shape := ⟨2, ![6, 128]⟩
abbrev S3x128 : Shape := ⟨2, ![3, 128]⟩
abbrev S119x128 : Shape := ⟨2, ![119, 128]⟩
abbrev S4x128 : Shape := ⟨2, ![4, 128]⟩
abbrev S12x128 : Shape := ⟨2, ![12, 128]⟩
abbrev S10x128 : Shape := ⟨2, ![10, 128]⟩
abbrev S2x128 : Shape := ⟨2, ![2, 128]⟩
abbrev S2x32 : Shape := ⟨2, ![2, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S128x112 : Shape := ⟨2, ![128, 112]⟩
abbrev S112 : Shape := ⟨1, ![112]⟩
abbrev S_ : Shape := ⟨0, ![]⟩

class Facts : Prop where
  bcast_S_S100000x21 : S_.BroadcastsInDim S100000x21 (![] : Fin 0 → Fin S100000x21.rank)
  reducesTo_S100000x21_S_d0_1 : S100000x21.ReducesTo [0, 1] S_
  h_S_ : 0 < S_.numel
  slices_S5x128_S2x128_0_0 : S5x128.Slices ![0, 0] S2x128
  bcast_S_S2x128 : S_.BroadcastsInDim S2x128 (![] : Fin 0 → Fin S2x128.rank)
  reducesTo_S2x128_S_d0_1 : S2x128.ReducesTo [0, 1] S_
  slices_S6x128_S2x128_0_0 : S6x128.Slices ![0, 0] S2x128
  slices_S3x128_S2x128_0_0 : S3x128.Slices ![0, 0] S2x128
  slices_S119x128_S2x128_0_0 : S119x128.Slices ![0, 0] S2x128
  slices_S4x128_S2x128_0_0 : S4x128.Slices ![0, 0] S2x128
  slices_S12x128_S2x128_0_0 : S12x128.Slices ![0, 0] S2x128
  slices_S10x128_S2x128_0_0 : S10x128.Slices ![0, 0] S2x128
  bcast_S_S128x112 : S_.BroadcastsInDim S128x112 (![] : Fin 0 → Fin S128x112.rank)
  reducesTo_S128x112_S_d0_1 : S128x112.ReducesTo [0, 1] S_

variable [Facts]

def fn_part4 {F : FTy → Type} [FloatOps F] (main_arg14 : FVec F S2x128 .f32) (main_arg23 : FVec F S128x112 .f32) (main_v70 : IVec S_ 1) : IVec S_ 1 :=
  let main_v71 : FVec F S2x128 .f32 := Host.absf main_arg14
  let main_cst_23 : FVec F S_ .f32 := constant S_ .f32 0x7F800000#32
  let main_v72 : FVec F S2x128 .f32 := broadcastInDim S2x128 ![] bcast_S_S2x128 main_cst_23
  let main_v73 : IVec S2x128 1 := cmpf .olt main_v71 main_v72
  let main_c_24 : IVec S_ 1 := constantI S_ 1 1#1
  let main_v74 : IVec S_ 1 := (fun x v => Host.reduce IntOp.andi x v reducesTo_S2x128_S_d0_1 h_S_) main_v73 main_c_24
  let main_v75 : IVec S_ 1 := andi main_v70 main_v74
  let main_v76 : FVec F S128x112 .f32 := Host.absf main_arg23
  let main_cst_25 : FVec F S_ .f32 := constant S_ .f32 0x7F800000#32
  let main_v77 : FVec F S128x112 .f32 := broadcastInDim S128x112 ![] bcast_S_S128x112 main_cst_25
  let main_v78 : IVec S128x112 1 := cmpf .olt main_v76 main_v77
  let main_c_26 : IVec S_ 1 := constantI S_ 1 1#1
  let main_v79 : IVec S_ 1 := (fun x v => Host.reduce IntOp.andi x v reducesTo_S128x112_S_d0_1 h_S_) main_v78 main_c_26
  let main_v80 : IVec S_ 1 := andi main_v75 main_v79
  main_v80

def fn_part3 {F : FTy → Type} [FloatOps F] (main_arg11 : FVec F S6x128 .f32) (main_arg12 : FVec F S6x128 .f32) (main_arg13 : FVec F S2x128 .f32) (main_arg14 : FVec F S2x128 .f32) (main_arg23 : FVec F S128x112 .f32) (main_v47 : IVec S_ 1) (main_v52 : IVec S_ 1) : IVec S_ 1 :=
  let main_v53 : IVec S_ 1 := andi main_v47 main_v52
  let main_v54 : FVec F S2x128 .f32 := (extractStridedSlice S2x128 ![0, 0] · slices_S6x128_S2x128_0_0) main_arg11
  let main_v55 : FVec F S2x128 .f32 := Host.absf main_v54
  let main_cst_17 : FVec F S_ .f32 := constant S_ .f32 0x7F800000#32
  let main_v56 : FVec F S2x128 .f32 := broadcastInDim S2x128 ![] bcast_S_S2x128 main_cst_17
  let main_v57 : IVec S2x128 1 := cmpf .olt main_v55 main_v56
  let main_c_18 : IVec S_ 1 := constantI S_ 1 1#1
  let main_v58 : IVec S_ 1 := (fun x v => Host.reduce IntOp.andi x v reducesTo_S2x128_S_d0_1 h_S_) main_v57 main_c_18
  let main_v59 : IVec S_ 1 := andi main_v53 main_v58
  let main_v60 : FVec F S2x128 .f32 := (extractStridedSlice S2x128 ![0, 0] · slices_S6x128_S2x128_0_0) main_arg12
  let main_v61 : FVec F S2x128 .f32 := Host.absf main_v60
  let main_cst_19 : FVec F S_ .f32 := constant S_ .f32 0x7F800000#32
  let main_v62 : FVec F S2x128 .f32 := broadcastInDim S2x128 ![] bcast_S_S2x128 main_cst_19
  let main_v63 : IVec S2x128 1 := cmpf .olt main_v61 main_v62
  let main_c_20 : IVec S_ 1 := constantI S_ 1 1#1
  let main_v64 : IVec S_ 1 := (fun x v => Host.reduce IntOp.andi x v reducesTo_S2x128_S_d0_1 h_S_) main_v63 main_c_20
  let main_v65 : IVec S_ 1 := andi main_v59 main_v64
  let main_v66 : FVec F S2x128 .f32 := Host.absf main_arg13
  let main_cst_21 : FVec F S_ .f32 := constant S_ .f32 0x7F800000#32
  let main_v67 : FVec F S2x128 .f32 := broadcastInDim S2x128 ![] bcast_S_S2x128 main_cst_21
  let main_v68 : IVec S2x128 1 := cmpf .olt main_v66 main_v67
  let main_c_22 : IVec S_ 1 := constantI S_ 1 1#1
  let main_v69 : IVec S_ 1 := (fun x v => Host.reduce IntOp.andi x v reducesTo_S2x128_S_d0_1 h_S_) main_v68 main_c_22
  let main_v70 : IVec S_ 1 := andi main_v65 main_v69
  fn_part4 (F := F) main_arg14 main_arg23 main_v70

def fn_part2 {F : FTy → Type} [FloatOps F] (main_arg8 : FVec F S12x128 .f32) (main_arg9 : FVec F S12x128 .f32) (main_arg10 : FVec F S10x128 .f32) (main_arg11 : FVec F S6x128 .f32) (main_arg12 : FVec F S6x128 .f32) (main_arg13 : FVec F S2x128 .f32) (main_arg14 : FVec F S2x128 .f32) (main_arg23 : FVec F S128x112 .f32) (main_v29 : IVec S_ 1) (main_v34 : IVec S_ 1) : IVec S_ 1 :=
  let main_v35 : IVec S_ 1 := andi main_v29 main_v34
  let main_v36 : FVec F S2x128 .f32 := (extractStridedSlice S2x128 ![0, 0] · slices_S12x128_S2x128_0_0) main_arg8
  let main_v37 : FVec F S2x128 .f32 := Host.absf main_v36
  let main_cst_11 : FVec F S_ .f32 := constant S_ .f32 0x7F800000#32
  let main_v38 : FVec F S2x128 .f32 := broadcastInDim S2x128 ![] bcast_S_S2x128 main_cst_11
  let main_v39 : IVec S2x128 1 := cmpf .olt main_v37 main_v38
  let main_c_12 : IVec S_ 1 := constantI S_ 1 1#1
  let main_v40 : IVec S_ 1 := (fun x v => Host.reduce IntOp.andi x v reducesTo_S2x128_S_d0_1 h_S_) main_v39 main_c_12
  let main_v41 : IVec S_ 1 := andi main_v35 main_v40
  let main_v42 : FVec F S2x128 .f32 := (extractStridedSlice S2x128 ![0, 0] · slices_S12x128_S2x128_0_0) main_arg9
  let main_v43 : FVec F S2x128 .f32 := Host.absf main_v42
  let main_cst_13 : FVec F S_ .f32 := constant S_ .f32 0x7F800000#32
  let main_v44 : FVec F S2x128 .f32 := broadcastInDim S2x128 ![] bcast_S_S2x128 main_cst_13
  let main_v45 : IVec S2x128 1 := cmpf .olt main_v43 main_v44
  let main_c_14 : IVec S_ 1 := constantI S_ 1 1#1
  let main_v46 : IVec S_ 1 := (fun x v => Host.reduce IntOp.andi x v reducesTo_S2x128_S_d0_1 h_S_) main_v45 main_c_14
  let main_v47 : IVec S_ 1 := andi main_v41 main_v46
  let main_v48 : FVec F S2x128 .f32 := (extractStridedSlice S2x128 ![0, 0] · slices_S10x128_S2x128_0_0) main_arg10
  let main_v49 : FVec F S2x128 .f32 := Host.absf main_v48
  let main_cst_15 : FVec F S_ .f32 := constant S_ .f32 0x7F800000#32
  let main_v50 : FVec F S2x128 .f32 := broadcastInDim S2x128 ![] bcast_S_S2x128 main_cst_15
  let main_v51 : IVec S2x128 1 := cmpf .olt main_v49 main_v50
  let main_c_16 : IVec S_ 1 := constantI S_ 1 1#1
  let main_v52 : IVec S_ 1 := (fun x v => Host.reduce IntOp.andi x v reducesTo_S2x128_S_d0_1 h_S_) main_v51 main_c_16
  fn_part3 (F := F) main_arg11 main_arg12 main_arg13 main_arg14 main_arg23 main_v47 main_v52

def fn_part1 {F : FTy → Type} [FloatOps F] (main_arg5 : FVec F S3x128 .f32) (main_arg6 : FVec F S119x128 .f32) (main_arg7 : FVec F S4x128 .f32) (main_arg8 : FVec F S12x128 .f32) (main_arg9 : FVec F S12x128 .f32) (main_arg10 : FVec F S10x128 .f32) (main_arg11 : FVec F S6x128 .f32) (main_arg12 : FVec F S6x128 .f32) (main_arg13 : FVec F S2x128 .f32) (main_arg14 : FVec F S2x128 .f32) (main_arg23 : FVec F S128x112 .f32) (main_v11 : IVec S_ 1) (main_v16 : IVec S_ 1) : IVec S_ 1 :=
  let main_v17 : IVec S_ 1 := andi main_v11 main_v16
  let main_v18 : FVec F S2x128 .f32 := (extractStridedSlice S2x128 ![0, 0] · slices_S3x128_S2x128_0_0) main_arg5
  let main_v19 : FVec F S2x128 .f32 := Host.absf main_v18
  let main_cst_5 : FVec F S_ .f32 := constant S_ .f32 0x7F800000#32
  let main_v20 : FVec F S2x128 .f32 := broadcastInDim S2x128 ![] bcast_S_S2x128 main_cst_5
  let main_v21 : IVec S2x128 1 := cmpf .olt main_v19 main_v20
  let main_c_6 : IVec S_ 1 := constantI S_ 1 1#1
  let main_v22 : IVec S_ 1 := (fun x v => Host.reduce IntOp.andi x v reducesTo_S2x128_S_d0_1 h_S_) main_v21 main_c_6
  let main_v23 : IVec S_ 1 := andi main_v17 main_v22
  let main_v24 : FVec F S2x128 .f32 := (extractStridedSlice S2x128 ![0, 0] · slices_S119x128_S2x128_0_0) main_arg6
  let main_v25 : FVec F S2x128 .f32 := Host.absf main_v24
  let main_cst_7 : FVec F S_ .f32 := constant S_ .f32 0x7F800000#32
  let main_v26 : FVec F S2x128 .f32 := broadcastInDim S2x128 ![] bcast_S_S2x128 main_cst_7
  let main_v27 : IVec S2x128 1 := cmpf .olt main_v25 main_v26
  let main_c_8 : IVec S_ 1 := constantI S_ 1 1#1
  let main_v28 : IVec S_ 1 := (fun x v => Host.reduce IntOp.andi x v reducesTo_S2x128_S_d0_1 h_S_) main_v27 main_c_8
  let main_v29 : IVec S_ 1 := andi main_v23 main_v28
  let main_v30 : FVec F S2x128 .f32 := (extractStridedSlice S2x128 ![0, 0] · slices_S4x128_S2x128_0_0) main_arg7
  let main_v31 : FVec F S2x128 .f32 := Host.absf main_v30
  let main_cst_9 : FVec F S_ .f32 := constant S_ .f32 0x7F800000#32
  let main_v32 : FVec F S2x128 .f32 := broadcastInDim S2x128 ![] bcast_S_S2x128 main_cst_9
  let main_v33 : IVec S2x128 1 := cmpf .olt main_v31 main_v32
  let main_c_10 : IVec S_ 1 := constantI S_ 1 1#1
  let main_v34 : IVec S_ 1 := (fun x v => Host.reduce IntOp.andi x v reducesTo_S2x128_S_d0_1 h_S_) main_v33 main_c_10
  fn_part2 (F := F) main_arg8 main_arg9 main_arg10 main_arg11 main_arg12 main_arg13 main_arg14 main_arg23 main_v29 main_v34

def fn {F : FTy → Type} [FloatOps F] (main_arg0 : IVec S100000x21 32) (main_arg1 : FVec F S100000x16x1 .f32) (main_arg2 : FVec F S100000x16 .f32) (main_arg3 : FVec F S5x128 .f32) (main_arg4 : FVec F S6x128 .f32) (main_arg5 : FVec F S3x128 .f32) (main_arg6 : FVec F S119x128 .f32) (main_arg7 : FVec F S4x128 .f32) (main_arg8 : FVec F S12x128 .f32) (main_arg9 : FVec F S12x128 .f32) (main_arg10 : FVec F S10x128 .f32) (main_arg11 : FVec F S6x128 .f32) (main_arg12 : FVec F S6x128 .f32) (main_arg13 : FVec F S2x128 .f32) (main_arg14 : FVec F S2x128 .f32) (main_arg15 : FVec F S2x32 .f32) (main_arg16 : FVec F S32 .f32) (main_arg17 : FVec F S32x32 .f32) (main_arg18 : FVec F S32 .f32) (main_arg19 : FVec F S32x32 .f32) (main_arg20 : FVec F S32 .f32) (main_arg21 : FVec F S32x16 .f32) (main_arg22 : FVec F S16 .f32) (main_arg23 : FVec F S128x112 .f32) (main_arg24 : FVec F S112 .f32) : IVec S_ 1 :=
  let main_c : IVec S_ 32 := constantI S_ 32 0#32
  let main_v0 : IVec S100000x21 32 := broadcastInDim S100000x21 ![] bcast_S_S100000x21 main_c
  let main_v1 : IVec S100000x21 1 := cmpi .eq main_arg0 main_v0
  let main_c_0 : IVec S_ 32 := constantI S_ 32 1#32
  let main_v2 : IVec S100000x21 32 := broadcastInDim S100000x21 ![] bcast_S_S100000x21 main_c_0
  let main_v3 : IVec S100000x21 1 := cmpi .eq main_arg0 main_v2
  let main_v4 : IVec S100000x21 1 := ori main_v1 main_v3
  let main_c_1 : IVec S_ 1 := constantI S_ 1 1#1
  let main_v5 : IVec S_ 1 := (fun x v => Host.reduce IntOp.andi x v reducesTo_S100000x21_S_d0_1 h_S_) main_v4 main_c_1
  let main_v6 : FVec F S2x128 .f32 := (extractStridedSlice S2x128 ![0, 0] · slices_S5x128_S2x128_0_0) main_arg3
  let main_v7 : FVec F S2x128 .f32 := Host.absf main_v6
  let main_cst : FVec F S_ .f32 := constant S_ .f32 0x7F800000#32
  let main_v8 : FVec F S2x128 .f32 := broadcastInDim S2x128 ![] bcast_S_S2x128 main_cst
  let main_v9 : IVec S2x128 1 := cmpf .olt main_v7 main_v8
  let main_c_2 : IVec S_ 1 := constantI S_ 1 1#1
  let main_v10 : IVec S_ 1 := (fun x v => Host.reduce IntOp.andi x v reducesTo_S2x128_S_d0_1 h_S_) main_v9 main_c_2
  let main_v11 : IVec S_ 1 := andi main_v5 main_v10
  let main_v12 : FVec F S2x128 .f32 := (extractStridedSlice S2x128 ![0, 0] · slices_S6x128_S2x128_0_0) main_arg4
  let main_v13 : FVec F S2x128 .f32 := Host.absf main_v12
  let main_cst_3 : FVec F S_ .f32 := constant S_ .f32 0x7F800000#32
  let main_v14 : FVec F S2x128 .f32 := broadcastInDim S2x128 ![] bcast_S_S2x128 main_cst_3
  let main_v15 : IVec S2x128 1 := cmpf .olt main_v13 main_v14
  let main_c_4 : IVec S_ 1 := constantI S_ 1 1#1
  let main_v16 : IVec S_ 1 := (fun x v => Host.reduce IntOp.andi x v reducesTo_S2x128_S_d0_1 h_S_) main_v15 main_c_4
  fn_part1 (F := F) main_arg5 main_arg6 main_arg7 main_arg8 main_arg9 main_arg10 main_arg11 main_arg12 main_arg13 main_arg14 main_arg23 main_v11 main_v16
-- ==== Kernel.lean ====
abbrev S100000x21 : Shape := ⟨2, ![100000, 21]⟩
abbrev S100000x16x1 : Shape := ⟨3, ![100000, 16, 1]⟩
abbrev S100000x16 : Shape := ⟨2, ![100000, 16]⟩
abbrev S5x128 : Shape := ⟨2, ![5, 128]⟩
abbrev S6x128 : Shape := ⟨2, ![6, 128]⟩
abbrev S3x128 : Shape := ⟨2, ![3, 128]⟩
abbrev S119x128 : Shape := ⟨2, ![119, 128]⟩
abbrev S4x128 : Shape := ⟨2, ![4, 128]⟩
abbrev S12x128 : Shape := ⟨2, ![12, 128]⟩
abbrev S10x128 : Shape := ⟨2, ![10, 128]⟩
abbrev S2x128 : Shape := ⟨2, ![2, 128]⟩
abbrev S2x32 : Shape := ⟨2, ![2, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S128x112 : Shape := ⟨2, ![128, 112]⟩
abbrev S112 : Shape := ⟨1, ![112]⟩
abbrev S4x32x128 : Shape := ⟨3, ![4, 32, 128]⟩
abbrev S128x128 : Shape := ⟨2, ![128, 128]⟩
abbrev S128x64 : Shape := ⟨2, ![128, 64]⟩
abbrev S64x128 : Shape := ⟨2, ![64, 128]⟩
abbrev S1x128 : Shape := ⟨2, ![1, 128]⟩
abbrev S128 : Shape := ⟨1, ![128]⟩
abbrev S9x128 : Shape := ⟨2, ![9, 128]⟩
abbrev S21x128 : Shape := ⟨2, ![21, 128]⟩
abbrev S21x112 : Shape := ⟨2, ![21, 112]⟩
abbrev S_ : Shape := ⟨0, ![]⟩
abbrev S1x2x1x32 : Shape := ⟨4, ![1, 2, 1, 32]⟩
abbrev S1x2x4x32 : Shape := ⟨4, ![1, 2, 4, 32]⟩
abbrev S1x1x128 : Shape := ⟨3, ![1, 1, 128]⟩
abbrev S1x32 : Shape := ⟨2, ![1, 32]⟩
abbrev S4x32 : Shape := ⟨2, ![4, 32]⟩
abbrev S1x32x1x32 : Shape := ⟨4, ![1, 32, 1, 32]⟩
abbrev S4x32x4x32 : Shape := ⟨4, ![4, 32, 4, 32]⟩
abbrev S1x32x1x16 : Shape := ⟨4, ![1, 32, 1, 16]⟩
abbrev S4x32x4x16 : Shape := ⟨4, ![4, 32, 4, 16]⟩
abbrev S1x16 : Shape := ⟨2, ![1, 16]⟩
abbrev S4x16 : Shape := ⟨2, ![4, 16]⟩
abbrev S64 : Shape := ⟨1, ![64]⟩
abbrev S1x64 : Shape := ⟨2, ![1, 64]⟩
abbrev S100000x128 : Shape := ⟨2, ![100000, 128]⟩
abbrev S4000x21 : Shape := ⟨2, ![4000, 21]⟩
abbrev S4000x16 : Shape := ⟨2, ![4000, 16]⟩
abbrev S4000x128 : Shape := ⟨2, ![4000, 128]⟩
abbrev S4000x32 : Shape := ⟨2, ![4000, 32]⟩
abbrev S1x32x128 : Shape := ⟨3, ![1, 32, 128]⟩
abbrev S32x128 : Shape := ⟨2, ![32, 128]⟩
abbrev S4000x64 : Shape := ⟨2, ![4000, 64]⟩

abbrev nBuf : Space → Nat
  | .hbm => 168
  | .vmem => 19
  | .smem => 0
  | _ => 0

abbrev hbmTy0_0 (i : Nat) : BufTy := match i % 128 with
  | 0 => ⟨S100000x21, .i32⟩
  | 1 => ⟨S100000x16x1, .f32⟩
  | 2 => ⟨S100000x16, .f32⟩
  | 3 => ⟨S5x128, .f32⟩
  | 4 => ⟨S6x128, .f32⟩
  | 5 => ⟨S3x128, .f32⟩
  | 6 => ⟨S119x128, .f32⟩
  | 7 => ⟨S4x128, .f32⟩
  | 8 => ⟨S12x128, .f32⟩
  | 9 => ⟨S12x128, .f32⟩
  | 10 => ⟨S10x128, .f32⟩
  | 11 => ⟨S6x128, .f32⟩
  | 12 => ⟨S6x128, .f32⟩
  | 13 => ⟨S2x128, .f32⟩
  | 14 => ⟨S2x128, .f32⟩
  | 15 => ⟨S2x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32x16, .f32⟩
  | 22 => ⟨S16, .f32⟩
  | 23 => ⟨S128x112, .f32⟩
  | 24 => ⟨S112, .f32⟩
  | 25 => ⟨S4x32x128, .f32⟩
  | 26 => ⟨S4x32x128, .f32⟩
  | 27 => ⟨S128x128, .f32⟩
  | 28 => ⟨S128x64, .f32⟩
  | 29 => ⟨S64x128, .f32⟩
  | 30 => ⟨S1x128, .f32⟩
  | 31 => ⟨S128, .f32⟩
  | 32 => ⟨S1x128, .f32⟩
  | 33 => ⟨S128, .f32⟩
  | 34 => ⟨S128, .f32⟩
  | 35 => ⟨S1x128, .f32⟩
  | 36 => ⟨S128, .f32⟩
  | 37 => ⟨S1x128, .f32⟩
  | 38 => ⟨S128, .f32⟩
  | 39 => ⟨S128, .f32⟩
  | 40 => ⟨S1x128, .f32⟩
  | 41 => ⟨S128, .f32⟩
  | 42 => ⟨S1x128, .f32⟩
  | 43 => ⟨S128, .f32⟩
  | 44 => ⟨S128, .f32⟩
  | 45 => ⟨S1x128, .f32⟩
  | 46 => ⟨S128, .f32⟩
  | 47 => ⟨S1x128, .f32⟩
  | 48 => ⟨S128, .f32⟩
  | 49 => ⟨S128, .f32⟩
  | 50 => ⟨S1x128, .f32⟩
  | 51 => ⟨S128, .f32⟩
  | 52 => ⟨S1x128, .f32⟩
  | 53 => ⟨S128, .f32⟩
  | 54 => ⟨S128, .f32⟩
  | 55 => ⟨S1x128, .f32⟩
  | 56 => ⟨S128, .f32⟩
  | 57 => ⟨S1x128, .f32⟩
  | 58 => ⟨S128, .f32⟩
  | 59 => ⟨S128, .f32⟩
  | 60 => ⟨S1x128, .f32⟩
  | 61 => ⟨S128, .f32⟩
  | 62 => ⟨S1x128, .f32⟩
  | 63 => ⟨S128, .f32⟩
  | 64 => ⟨S128, .f32⟩
  | 65 => ⟨S1x128, .f32⟩
  | 66 => ⟨S128, .f32⟩
  | 67 => ⟨S1x128, .f32⟩
  | 68 => ⟨S128, .f32⟩
  | 69 => ⟨S128, .f32⟩
  | 70 => ⟨S1x128, .f32⟩
  | 71 => ⟨S128, .f32⟩
  | 72 => ⟨S1x128, .f32⟩
  | 73 => ⟨S128, .f32⟩
  | 74 => ⟨S128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S9x128, .f32⟩
  | 85 => ⟨S1x128, .f32⟩
  | 86 => ⟨S128, .f32⟩
  | 87 => ⟨S1x128, .f32⟩
  | 88 => ⟨S128, .f32⟩
  | 89 => ⟨S128, .f32⟩
  | 90 => ⟨S1x128, .f32⟩
  | 91 => ⟨S128, .f32⟩
  | 92 => ⟨S1x128, .f32⟩
  | 93 => ⟨S128, .f32⟩
  | 94 => ⟨S128, .f32⟩
  | 95 => ⟨S1x128, .f32⟩
  | 96 => ⟨S128, .f32⟩
  | 97 => ⟨S1x128, .f32⟩
  | 98 => ⟨S128, .f32⟩
  | 99 => ⟨S128, .f32⟩
  | 100 => ⟨S1x128, .f32⟩
  | 101 => ⟨S1x128, .f32⟩
  | 102 => ⟨S1x128, .f32⟩
  | 103 => ⟨S3x128, .f32⟩
  | 104 => ⟨S9x128, .f32⟩
  | 105 => ⟨S21x128, .f32⟩
  | 106 => ⟨S1x128, .f32⟩
  | 107 => ⟨S128, .f32⟩
  | 108 => ⟨S1x128, .f32⟩
  | 109 => ⟨S128, .f32⟩
  | 110 => ⟨S128, .f32⟩
  | 111 => ⟨S1x128, .f32⟩
  | 112 => ⟨S128, .f32⟩
  | 113 => ⟨S128, .f32⟩
  | 114 => ⟨S21x112, .f32⟩
  | 115 => ⟨S_, .i32⟩
  | 116 => ⟨S_, .f32⟩
  | 117 => ⟨S21x128, .f32⟩
  | 118 => ⟨S112, .f32⟩
  | 119 => ⟨S112, .f32⟩
  | 120 => ⟨S_, .i32⟩
  | 121 => ⟨S_, .f32⟩
  | 122 => ⟨S128, .f32⟩
  | 123 => ⟨S1x128, .f32⟩
  | 124 => ⟨S1x2x1x32, .f32⟩
  | 125 => ⟨S1x2x4x32, .f32⟩
  | 126 => ⟨S2x128, .f32⟩
  | 127 => ⟨S1x128, .f32⟩
  | _ => ⟨S100000x21, .i32⟩

abbrev hbmTy0_1 (i : Nat) : BufTy := match i % 128 with
  | 0 => ⟨S128, .f32⟩
  | 1 => ⟨S1x1x128, .f32⟩
  | 2 => ⟨S4x32x128, .f32⟩
  | 3 => ⟨S4x32x128, .f32⟩
  | 4 => ⟨S1x128, .f32⟩
  | 5 => ⟨S128, .f32⟩
  | 6 => ⟨S1x1x128, .f32⟩
  | 7 => ⟨S4x32x128, .f32⟩
  | 8 => ⟨S4x32x128, .f32⟩
  | 9 => ⟨S4x32x128, .f32⟩
  | 10 => ⟨S1x32, .f32⟩
  | 11 => ⟨S4x32, .f32⟩
  | 12 => ⟨S128, .f32⟩
  | 13 => ⟨S1x128, .f32⟩
  | 14 => ⟨S1x32x1x32, .f32⟩
  | 15 => ⟨S4x32x4x32, .f32⟩
  | 16 => ⟨S128x128, .f32⟩
  | 17 => ⟨S128x128, .f32⟩
  | 18 => ⟨S1x32, .f32⟩
  | 19 => ⟨S4x32, .f32⟩
  | 20 => ⟨S128, .f32⟩
  | 21 => ⟨S1x128, .f32⟩
  | 22 => ⟨S1x32x1x32, .f32⟩
  | 23 => ⟨S4x32x4x32, .f32⟩
  | 24 => ⟨S128x128, .f32⟩
  | 25 => ⟨S128x128, .f32⟩
  | 26 => ⟨S1x32, .f32⟩
  | 27 => ⟨S4x32, .f32⟩
  | 28 => ⟨S128, .f32⟩
  | 29 => ⟨S1x128, .f32⟩
  | 30 => ⟨S1x32x1x16, .f32⟩
  | 31 => ⟨S4x32x4x16, .f32⟩
  | 32 => ⟨S128x64, .f32⟩
  | 33 => ⟨S128x64, .f32⟩
  | 34 => ⟨S1x16, .f32⟩
  | 35 => ⟨S4x16, .f32⟩
  | 36 => ⟨S64, .f32⟩
  | 37 => ⟨S1x64, .f32⟩
  | 38 => ⟨S100000x16, .f32⟩
  | 39 => ⟨S100000x128, .f32⟩
  | _ => ⟨S100000x21, .i32⟩

abbrev hbmTy (i : Nat) : BufTy := match i / 128 with
  | 0 => hbmTy0_0 i
  | 1 => hbmTy0_1 i
  | _ => ⟨S100000x21, .i32⟩

abbrev bufTy : (tb : Table) → Fin (tcTables nBuf tb) → BufTy
  | .hbm, ⟨i, _⟩ => hbmTy i
  | .local _ .vmem, ⟨0, _⟩ => ⟨S4000x21, .i32⟩
  | .local _ .vmem, ⟨1, _⟩ => ⟨S4000x21, .i32⟩
  | .local _ .vmem, ⟨2, _⟩ => ⟨S4000x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S21x128, .f32⟩
  | .local _ .vmem, ⟨7, _⟩ => ⟨S1x128, .f32⟩
  | .local _ .vmem, ⟨8, _⟩ => ⟨S4x32x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x128, .f32⟩
  | .local _ .vmem, ⟨17, _⟩ => ⟨S4000x128, .f32⟩
  | .local _ .vmem, ⟨18, _⟩ => ⟨S4000x128, .f32⟩
  | _, _ => ⟨S100000x21, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_cst_0 : Ref sig .tc := ⟨.hbm, 26, rfl⟩
abbrev main_cst_1 : Ref sig .tc := ⟨.hbm, 27, rfl⟩
abbrev main_cst_2 : Ref sig .tc := ⟨.hbm, 28, rfl⟩
abbrev main_cst_3 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c : Ref sig .tc := ⟨.hbm, 115, rfl⟩
abbrev main_call0_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_4 : Ref sig .tc := ⟨.hbm, 120, rfl⟩
abbrev main_call1_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x21 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S21x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S100000x21 : Shape := ⟨2, ![100000, 21]⟩
abbrev S100000x16x1 : Shape := ⟨3, ![100000, 16, 1]⟩
abbrev S100000x16 : Shape := ⟨2, ![100000, 16]⟩
abbrev S5x128 : Shape := ⟨2, ![5, 128]⟩
abbrev S6x128 : Shape := ⟨2, ![6, 128]⟩
abbrev S3x128 : Shape := ⟨2, ![3, 128]⟩
abbrev S119x128 : Shape := ⟨2, ![119, 128]⟩
abbrev S4x128 : Shape := ⟨2, ![4, 128]⟩
abbrev S12x128 : Shape := ⟨2, ![12, 128]⟩
abbrev S10x128 : Shape := ⟨2, ![10, 128]⟩
abbrev S2x128 : Shape := ⟨2, ![2, 128]⟩
abbrev S2x32 : Shape := ⟨2, ![2, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S128x112 : Shape := ⟨2, ![128, 112]⟩
abbrev S112 : Shape := ⟨1, ![112]⟩
abbrev S_ : Shape := ⟨0, ![]⟩
abbrev S100000x128 : Shape := ⟨2, ![100000, 128]⟩
abbrev S100000x1 : Shape := ⟨2, ![100000, 1]⟩
abbrev S100000 : Shape := ⟨1, ![100000]⟩
abbrev S1 : Shape := ⟨1, ![1]⟩
abbrev S1x1 : Shape := ⟨2, ![1, 1]⟩
abbrev S100000x112 : Shape := ⟨2, ![100000, 112]⟩
abbrev S1x112 : Shape := ⟨2, ![1, 112]⟩
abbrev S100000x16x2 : Shape := ⟨3, ![100000, 16, 2]⟩
abbrev S100000x16x32 : Shape := ⟨3, ![100000, 16, 32]⟩
abbrev S1x1x32 : Shape := ⟨3, ![1, 1, 32]⟩
abbrev S100000x16x16 : Shape := ⟨3, ![100000, 16, 16]⟩
abbrev S1x1x16 : Shape := ⟨3, ![1, 1, 16]⟩

abbrev nBuf : Space → Nat
  | .hbm => 627
  | .vmem => 0
  | .smem => 0
  | _ => 0

abbrev hbmTy0_0 (i : Nat) : BufTy := match i % 128 with
  | 0 => ⟨S100000x21, .i32⟩
  | 1 => ⟨S100000x16x1, .f32⟩
  | 2 => ⟨S100000x16, .f32⟩
  | 3 => ⟨S5x128, .f32⟩
  | 4 => ⟨S6x128, .f32⟩
  | 5 => ⟨S3x128, .f32⟩
  | 6 => ⟨S119x128, .f32⟩
  | 7 => ⟨S4x128, .f32⟩
  | 8 => ⟨S12x128, .f32⟩
  | 9 => ⟨S12x128, .f32⟩
  | 10 => ⟨S10x128, .f32⟩
  | 11 => ⟨S6x128, .f32⟩
  | 12 => ⟨S6x128, .f32⟩
  | 13 => ⟨S2x128, .f32⟩
  | 14 => ⟨S2x128, .f32⟩
  | 15 => ⟨S2x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32x16, .f32⟩
  | 22 => ⟨S16, .f32⟩
  | 23 => ⟨S128x112, .f32⟩
  | 24 => ⟨S112, .f32⟩
  | 25 => ⟨S_, .f32⟩
  | 26 => ⟨S100000x128, .f32⟩
  | 27 => ⟨S100000x1, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S1, .i32⟩
  | 38 => ⟨S_, .i32⟩
  | 39 => ⟨S100000x1, .i32⟩
  | 40 => ⟨S100000x1, .i1⟩
  | 41 => ⟨S1x1, .i32⟩
  | 42 => ⟨S100000x1, .i32⟩
  | 43 => ⟨S100000x1, .i1⟩
  | 44 => ⟨S100000x1, .i1⟩
  | 45 => ⟨S_, .i1⟩
  | 46 => ⟨S100000, .i1⟩
  | 47 => ⟨S100000x128, .f32⟩
  | 48 => ⟨S100000x128, .i1⟩
  | 49 => ⟨S_, .f32⟩
  | 50 => ⟨S100000x128, .f32⟩
  | 51 => ⟨S100000x128, .f32⟩
  | 52 => ⟨S100000x128, .f32⟩
  | 53 => ⟨S100000x1, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S1, .i32⟩
  | 64 => ⟨S_, .i32⟩
  | 65 => ⟨S100000x1, .i32⟩
  | 66 => ⟨S100000x1, .i1⟩
  | 67 => ⟨S1x1, .i32⟩
  | 68 => ⟨S100000x1, .i32⟩
  | 69 => ⟨S100000x1, .i1⟩
  | 70 => ⟨S100000x1, .i1⟩
  | 71 => ⟨S_, .i1⟩
  | 72 => ⟨S100000, .i1⟩
  | 73 => ⟨S100000x128, .f32⟩
  | 74 => ⟨S100000x128, .i1⟩
  | 75 => ⟨S_, .f32⟩
  | 76 => ⟨S100000x128, .f32⟩
  | 77 => ⟨S100000x128, .f32⟩
  | 78 => ⟨S100000x128, .f32⟩
  | 79 => ⟨S100000x1, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S1, .i32⟩
  | 90 => ⟨S_, .i32⟩
  | 91 => ⟨S100000x1, .i32⟩
  | 92 => ⟨S100000x1, .i1⟩
  | 93 => ⟨S1x1, .i32⟩
  | 94 => ⟨S100000x1, .i32⟩
  | 95 => ⟨S100000x1, .i1⟩
  | 96 => ⟨S100000x1, .i1⟩
  | 97 => ⟨S_, .i1⟩
  | 98 => ⟨S100000, .i1⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x1, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S1, .i32⟩
  | 118 => ⟨S_, .i32⟩
  | 119 => ⟨S100000x1, .i32⟩
  | 120 => ⟨S100000x1, .i1⟩
  | 121 => ⟨S1x1, .i32⟩
  | 122 => ⟨S100000x1, .i32⟩
  | 123 => ⟨S100000x1, .i1⟩
  | 124 => ⟨S100000x1, .i1⟩
  | 125 => ⟨S_, .i1⟩
  | 126 => ⟨S100000, .i1⟩
  | 127 => ⟨S100000x128, .f32⟩
  | _ => ⟨S100000x21, .i32⟩

abbrev hbmTy0_1 (i : Nat) : BufTy := match i % 128 with
  | 0 => ⟨S100000x128, .i1⟩
  | 1 => ⟨S_, .f32⟩
  | 2 => ⟨S100000x128, .f32⟩
  | 3 => ⟨S100000x128, .f32⟩
  | 4 => ⟨S100000x128, .f32⟩
  | 5 => ⟨S100000x1, .i32⟩
  | 6 => ⟨S100000, .i32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S1, .i32⟩
  | 16 => ⟨S_, .i32⟩
  | 17 => ⟨S100000x1, .i32⟩
  | 18 => ⟨S100000x1, .i1⟩
  | 19 => ⟨S1x1, .i32⟩
  | 20 => ⟨S100000x1, .i32⟩
  | 21 => ⟨S100000x1, .i1⟩
  | 22 => ⟨S100000x1, .i1⟩
  | 23 => ⟨S_, .i1⟩
  | 24 => ⟨S100000, .i1⟩
  | 25 => ⟨S100000x128, .f32⟩
  | 26 => ⟨S100000x128, .i1⟩
  | 27 => ⟨S_, .f32⟩
  | 28 => ⟨S100000x128, .f32⟩
  | 29 => ⟨S100000x128, .f32⟩
  | 30 => ⟨S100000x128, .f32⟩
  | 31 => ⟨S100000x1, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S1, .i32⟩
  | 42 => ⟨S_, .i32⟩
  | 43 => ⟨S100000x1, .i32⟩
  | 44 => ⟨S100000x1, .i1⟩
  | 45 => ⟨S1x1, .i32⟩
  | 46 => ⟨S100000x1, .i32⟩
  | 47 => ⟨S100000x1, .i1⟩
  | 48 => ⟨S100000x1, .i1⟩
  | 49 => ⟨S_, .i1⟩
  | 50 => ⟨S100000, .i1⟩
  | 51 => ⟨S100000x128, .f32⟩
  | 52 => ⟨S100000x128, .i1⟩
  | 53 => ⟨S_, .f32⟩
  | 54 => ⟨S100000x128, .f32⟩
  | 55 => ⟨S100000x128, .f32⟩
  | 56 => ⟨S100000x128, .f32⟩
  | 57 => ⟨S100000x1, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S1, .i32⟩
  | 68 => ⟨S_, .i32⟩
  | 69 => ⟨S100000x1, .i32⟩
  | 70 => ⟨S100000x1, .i1⟩
  | 71 => ⟨S1x1, .i32⟩
  | 72 => ⟨S100000x1, .i32⟩
  | 73 => ⟨S100000x1, .i1⟩
  | 74 => ⟨S100000x1, .i1⟩
  | 75 => ⟨S_, .i1⟩
  | 76 => ⟨S100000, .i1⟩
  | 77 => ⟨S100000x128, .f32⟩
  | 78 => ⟨S100000x128, .i1⟩
  | 79 => ⟨S_, .f32⟩
  | 80 => ⟨S100000x128, .f32⟩
  | 81 => ⟨S100000x128, .f32⟩
  | 82 => ⟨S100000x128, .f32⟩
  | 83 => ⟨S100000x1, .i32⟩
  | 84 => ⟨S100000, .i32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S1, .i32⟩
  | 94 => ⟨S_, .i32⟩
  | 95 => ⟨S100000x1, .i32⟩
  | 96 => ⟨S100000x1, .i1⟩
  | 97 => ⟨S1x1, .i32⟩
  | 98 => ⟨S100000x1, .i32⟩
  | 99 => ⟨S100000x1, .i1⟩
  | 100 => ⟨S100000x1, .i1⟩
  | 101 => ⟨S_, .i1⟩
  | 102 => ⟨S100000, .i1⟩
  | 103 => ⟨S100000x128, .f32⟩
  | 104 => ⟨S100000x128, .i1⟩
  | 105 => ⟨S_, .f32⟩
  | 106 => ⟨S100000x128, .f32⟩
  | 107 => ⟨S100000x128, .f32⟩
  | 108 => ⟨S100000x128, .f32⟩
  | 109 => ⟨S100000x1, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S1, .i32⟩
  | 120 => ⟨S_, .i32⟩
  | 121 => ⟨S100000x1, .i32⟩
  | 122 => ⟨S100000x1, .i1⟩
  | 123 => ⟨S1x1, .i32⟩
  | 124 => ⟨S100000x1, .i32⟩
  | 125 => ⟨S100000x1, .i1⟩
  | 126 => ⟨S100000x1, .i1⟩
  | 127 => ⟨S_, .i1⟩
  | _ => ⟨S100000x21, .i32⟩

abbrev hbmTy0_2 (i : Nat) : BufTy := match i % 128 with
  | 0 => ⟨S100000, .i1⟩
  | 1 => ⟨S100000x128, .f32⟩
  | 2 => ⟨S100000x128, .i1⟩
  | 3 => ⟨S_, .f32⟩
  | 4 => ⟨S100000x128, .f32⟩
  | 5 => ⟨S100000x128, .f32⟩
  | 6 => ⟨S100000x128, .f32⟩
  | 7 => ⟨S100000x1, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000x128, .f32⟩
  | 28 => ⟨S100000x128, .i1⟩
  | 29 => ⟨S_, .f32⟩
  | 30 => ⟨S100000x128, .f32⟩
  | 31 => ⟨S100000x128, .f32⟩
  | 32 => ⟨S100000x128, .f32⟩
  | 33 => ⟨S100000x1, .i32⟩
  | 34 => ⟨S100000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S1, .i32⟩
  | 44 => ⟨S_, .i32⟩
  | 45 => ⟨S100000x1, .i32⟩
  | 46 => ⟨S100000x1, .i1⟩
  | 47 => ⟨S1x1, .i32⟩
  | 48 => ⟨S100000x1, .i32⟩
  | 49 => ⟨S100000x1, .i1⟩
  | 50 => ⟨S100000x1, .i1⟩
  | 51 => ⟨S_, .i1⟩
  | 52 => ⟨S100000, .i1⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S100000x1, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S1, .i32⟩
  | 70 => ⟨S_, .i32⟩
  | 71 => ⟨S100000x1, .i32⟩
  | 72 => ⟨S100000x1, .i1⟩
  | 73 => ⟨S1x1, .i32⟩
  | 74 => ⟨S100000x1, .i32⟩
  | 75 => ⟨S100000x1, .i1⟩
  | 76 => ⟨S100000x1, .i1⟩
  | 77 => ⟨S_, .i1⟩
  | 78 => ⟨S100000, .i1⟩
  | 79 => ⟨S100000x128, .f32⟩
  | 80 => ⟨S100000x128, .i1⟩
  | 81 => ⟨S_, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x1, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S1, .i32⟩
  | 98 => ⟨S_, .i32⟩
  | 99 => ⟨S100000x1, .i32⟩
  | 100 => ⟨S100000x1, .i1⟩
  | 101 => ⟨S1x1, .i32⟩
  | 102 => ⟨S100000x1, .i32⟩
  | 103 => ⟨S100000x1, .i1⟩
  | 104 => ⟨S100000x1, .i1⟩
  | 105 => ⟨S_, .i1⟩
  | 106 => ⟨S100000, .i1⟩
  | 107 => ⟨S100000x128, .f32⟩
  | 108 => ⟨S100000x128, .i1⟩
  | 109 => ⟨S_, .f32⟩
  | 110 => ⟨S100000x128, .f32⟩
  | 111 => ⟨S100000x128, .f32⟩
  | 112 => ⟨S100000x128, .f32⟩
  | 113 => ⟨S100000x1, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S1, .i32⟩
  | 124 => ⟨S_, .i32⟩
  | 125 => ⟨S100000x1, .i32⟩
  | 126 => ⟨S100000x1, .i1⟩
  | 127 => ⟨S1x1, .i32⟩
  | _ => ⟨S100000x21, .i32⟩

abbrev hbmTy0_3 (i : Nat) : BufTy := match i % 128 with
  | 0 => ⟨S100000x1, .i32⟩
  | 1 => ⟨S100000x1, .i1⟩
  | 2 => ⟨S100000x1, .i1⟩
  | 3 => ⟨S_, .i1⟩
  | 4 => ⟨S100000, .i1⟩
  | 5 => ⟨S100000x128, .f32⟩
  | 6 => ⟨S100000x128, .i1⟩
  | 7 => ⟨S_, .f32⟩
  | 8 => ⟨S100000x128, .f32⟩
  | 9 => ⟨S100000x128, .f32⟩
  | 10 => ⟨S100000x128, .f32⟩
  | 11 => ⟨S100000x1, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S1, .i32⟩
  | 22 => ⟨S_, .i32⟩
  | 23 => ⟨S100000x1, .i32⟩
  | 24 => ⟨S100000x1, .i1⟩
  | 25 => ⟨S1x1, .i32⟩
  | 26 => ⟨S100000x1, .i32⟩
  | 27 => ⟨S100000x1, .i1⟩
  | 28 => ⟨S100000x1, .i1⟩
  | 29 => ⟨S_, .i1⟩
  | 30 => ⟨S100000, .i1⟩
  | 31 => ⟨S100000x128, .f32⟩
  | 32 => ⟨S100000x128, .i1⟩
  | 33 => ⟨S_, .f32⟩
  | 34 => ⟨S100000x128, .f32⟩
  | 35 => ⟨S100000x128, .f32⟩
  | 36 => ⟨S100000x128, .f32⟩
  | 37 => ⟨S100000x1, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S1, .i32⟩
  | 48 => ⟨S_, .i32⟩
  | 49 => ⟨S100000x1, .i32⟩
  | 50 => ⟨S100000x1, .i1⟩
  | 51 => ⟨S1x1, .i32⟩
  | 52 => ⟨S100000x1, .i32⟩
  | 53 => ⟨S100000x1, .i1⟩
  | 54 => ⟨S100000x1, .i1⟩
  | 55 => ⟨S_, .i1⟩
  | 56 => ⟨S100000, .i1⟩
  | 57 => ⟨S100000x128, .f32⟩
  | 58 => ⟨S100000x128, .i1⟩
  | 59 => ⟨S_, .f32⟩
  | 60 => ⟨S100000x128, .f32⟩
  | 61 => ⟨S100000x128, .f32⟩
  | 62 => ⟨S100000x128, .f32⟩
  | 63 => ⟨S100000x1, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S1, .i32⟩
  | 74 => ⟨S_, .i32⟩
  | 75 => ⟨S100000x1, .i32⟩
  | 76 => ⟨S100000x1, .i1⟩
  | 77 => ⟨S1x1, .i32⟩
  | 78 => ⟨S100000x1, .i32⟩
  | 79 => ⟨S100000x1, .i1⟩
  | 80 => ⟨S100000x1, .i1⟩
  | 81 => ⟨S_, .i1⟩
  | 82 => ⟨S100000, .i1⟩
  | 83 => ⟨S100000x128, .f32⟩
  | 84 => ⟨S100000x128, .i1⟩
  | 85 => ⟨S_, .f32⟩
  | 86 => ⟨S100000x128, .f32⟩
  | 87 => ⟨S100000x128, .f32⟩
  | 88 => ⟨S100000x128, .f32⟩
  | 89 => ⟨S100000x1, .i32⟩
  | 90 => ⟨S100000, .i32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S1, .i32⟩
  | 100 => ⟨S_, .i32⟩
  | 101 => ⟨S100000x1, .i32⟩
  | 102 => ⟨S100000x1, .i1⟩
  | 103 => ⟨S1x1, .i32⟩
  | 104 => ⟨S100000x1, .i32⟩
  | 105 => ⟨S100000x1, .i1⟩
  | 106 => ⟨S100000x1, .i1⟩
  | 107 => ⟨S_, .i1⟩
  | 108 => ⟨S100000, .i1⟩
  | 109 => ⟨S100000x128, .f32⟩
  | 110 => ⟨S100000x128, .i1⟩
  | 111 => ⟨S_, .f32⟩
  | 112 => ⟨S100000x128, .f32⟩
  | 113 => ⟨S100000x128, .f32⟩
  | 114 => ⟨S100000x128, .f32⟩
  | 115 => ⟨S100000x1, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S1, .i32⟩
  | 126 => ⟨S_, .i32⟩
  | 127 => ⟨S100000x1, .i32⟩
  | _ => ⟨S100000x21, .i32⟩

abbrev hbmTy0_4 (i : Nat) : BufTy := match i % 128 with
  | 0 => ⟨S100000x1, .i1⟩
  | 1 => ⟨S1x1, .i32⟩
  | 2 => ⟨S100000x1, .i32⟩
  | 3 => ⟨S100000x1, .i1⟩
  | 4 => ⟨S100000x1, .i1⟩
  | 5 => ⟨S_, .i1⟩
  | 6 => ⟨S100000, .i1⟩
  | 7 => ⟨S100000x128, .f32⟩
  | 8 => ⟨S100000x128, .i1⟩
  | 9 => ⟨S_, .f32⟩
  | 10 => ⟨S100000x128, .f32⟩
  | 11 => ⟨S100000x128, .f32⟩
  | 12 => ⟨S100000x128, .f32⟩
  | 13 => ⟨S100000x1, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S1, .i32⟩
  | 24 => ⟨S_, .i32⟩
  | 25 => ⟨S100000x1, .i32⟩
  | 26 => ⟨S100000x1, .i1⟩
  | 27 => ⟨S1x1, .i32⟩
  | 28 => ⟨S100000x1, .i32⟩
  | 29 => ⟨S100000x1, .i1⟩
  | 30 => ⟨S100000x1, .i1⟩
  | 31 => ⟨S_, .i1⟩
  | 32 => ⟨S100000, .i1⟩
  | 33 => ⟨S100000x128, .f32⟩
  | 34 => ⟨S100000x128, .i1⟩
  | 35 => ⟨S_, .f32⟩
  | 36 => ⟨S100000x128, .f32⟩
  | 37 => ⟨S100000x128, .f32⟩
  | 38 => ⟨S100000x128, .f32⟩
  | 39 => ⟨S100000x1, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S1, .i32⟩
  | 50 => ⟨S_, .i32⟩
  | 51 => ⟨S100000x1, .i32⟩
  | 52 => ⟨S100000x1, .i1⟩
  | 53 => ⟨S1x1, .i32⟩
  | 54 => ⟨S100000x1, .i32⟩
  | 55 => ⟨S100000x1, .i1⟩
  | 56 => ⟨S100000x1, .i1⟩
  | 57 => ⟨S_, .i1⟩
  | 58 => ⟨S100000, .i1⟩
  | 59 => ⟨S100000x128, .f32⟩
  | 60 => ⟨S100000x128, .i1⟩
  | 61 => ⟨S_, .f32⟩
  | 62 => ⟨S100000x128, .f32⟩
  | 63 => ⟨S100000x128, .f32⟩
  | 64 => ⟨S100000x128, .f32⟩
  | 65 => ⟨S100000x128, .f32⟩
  | 66 => ⟨S100000x128, .f32⟩
  | 67 => ⟨S100000x112, .f32⟩
  | 68 => ⟨S1x112, .f32⟩
  | 69 => ⟨S100000x112, .f32⟩
  | 70 => ⟨S100000x112, .f32⟩
  | 71 => ⟨S100000x16x1, .f32⟩
  | 72 => ⟨S100000x16x2, .f32⟩
  | 73 => ⟨S100000x16x2, .i1⟩
  | 74 => ⟨S_, .f32⟩
  | 75 => ⟨S_, .f32⟩
  | 76 => ⟨S100000x16x2, .f32⟩
  | 77 => ⟨S100000x16x2, .f32⟩
  | 78 => ⟨S100000x16x32, .f32⟩
  | 79 => ⟨S1x1x32, .f32⟩
  | 80 => ⟨S100000x16x32, .f32⟩
  | 81 => ⟨S100000x16x32, .f32⟩
  | 82 => ⟨S_, .f32⟩
  | 83 => ⟨S100000x16x32, .f32⟩
  | 84 => ⟨S100000x16x32, .f32⟩
  | 85 => ⟨S100000x16x32, .f32⟩
  | 86 => ⟨S1x1x32, .f32⟩
  | 87 => ⟨S100000x16x32, .f32⟩
  | 88 => ⟨S100000x16x32, .f32⟩
  | 89 => ⟨S_, .f32⟩
  | 90 => ⟨S100000x16x32, .f32⟩
  | 91 => ⟨S100000x16x32, .f32⟩
  | 92 => ⟨S100000x16x32, .f32⟩
  | 93 => ⟨S1x1x32, .f32⟩
  | 94 => ⟨S100000x16x32, .f32⟩
  | 95 => ⟨S100000x16x32, .f32⟩
  | 96 => ⟨S_, .f32⟩
  | 97 => ⟨S100000x16x32, .f32⟩
  | 98 => ⟨S100000x16x32, .f32⟩
  | 99 => ⟨S100000x16x16, .f32⟩
  | 100 => ⟨S1x1x16, .f32⟩
  | 101 => ⟨S100000x16x16, .f32⟩
  | 102 => ⟨S100000x16x16, .f32⟩
  | 103 => ⟨S_, .f32⟩
  | 104 => ⟨S100000x16x16, .f32⟩
  | 105 => ⟨S100000x16x16, .f32⟩
  | 106 => ⟨S100000x16x1, .i1⟩
  | 107 => ⟨S_, .f32⟩
  | 108 => ⟨S_, .f32⟩
  | 109 => ⟨S100000x16x16, .i1⟩
  | 110 => ⟨S100000x16x16, .f32⟩
  | 111 => ⟨S100000x16x16, .f32⟩
  | 112 => ⟨S_, .f32⟩
  | 113 => ⟨S100000x16, .f32⟩
  | 114 => ⟨S100000x128, .f32⟩
  | _ => ⟨S100000x21, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x21, .i32⟩

abbrev bufTy : (tb : Table) → Fin (tcTables nBuf tb) → BufTy
  | .hbm, ⟨i, _⟩ => hbmTy i
  | _, _ => ⟨S100000x21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v11 : Ref sig .tc := ⟨.hbm, 103, rfl⟩
abbrev main_v12 : Ref sig .tc := ⟨.hbm, 104, rfl⟩
abbrev main_cst_0 : Ref sig .tc := ⟨.hbm, 105, rfl⟩
abbrev main_v13 : Ref sig .tc := ⟨.hbm, 106, rfl⟩
abbrev main_v14 : Ref sig .tc := ⟨.hbm, 107, rfl⟩
abbrev main_v15 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v16 : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_call4_c : Ref sig .tc := ⟨.hbm, 135, rfl⟩
abbrev main_call4_v0 : Ref sig .tc := ⟨.hbm, 136, rfl⟩
abbrev main_call4_v1 : Ref sig .tc := ⟨.hbm, 137, rfl⟩
abbrev main_call4_c_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_c_1 : Ref sig .tc := ⟨.hbm, 143, rfl⟩
abbrev main_call4_c_2 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_3 : Ref sig .tc := ⟨.hbm, 151, rfl⟩
abbrev main_call4_v12 : Ref sig .tc := ⟨.hbm, 152, rfl⟩
abbrev main_call4_v13 : Ref sig .tc := ⟨.hbm, 153, rfl⟩
abbrev main_call4_v14 : Ref sig .tc := ⟨.hbm, 154, rfl⟩
abbrev main_call4_cst : Ref sig .tc := ⟨.hbm, 155, rfl⟩
abbrev main_call4_v15 : Ref sig .tc := ⟨.hbm, 156, rfl⟩
abbrev main_v20 : Ref sig .tc := ⟨.hbm, 157, rfl⟩
abbrev main_v21 : Ref sig .tc := ⟨.hbm, 158, rfl⟩
abbrev main_v22 : Ref sig .tc := ⟨.hbm, 159, rfl⟩
abbrev main_v23 : Ref sig .tc := ⟨.hbm, 160, rfl⟩
abbrev main_call5_c : Ref sig .tc := ⟨.hbm, 161, rfl⟩
abbrev main_call5_v0 : Ref sig .tc := ⟨.hbm, 162, rfl⟩
abbrev main_call5_v1 : Ref sig .tc := ⟨.hbm, 163, rfl⟩
abbrev main_call5_c_0 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_call5_v5 : Ref sig .tc := ⟨.hbm, 168, rfl⟩
abbrev main_call5_c_1 : Ref sig .tc := ⟨.hbm, 169, rfl⟩
abbrev main_call5_c_2 : Ref sig .tc := ⟨.hbm, 170, rfl⟩
abbrev main_call5_v6 : Ref sig .tc := ⟨.hbm, 171, rfl⟩
abbrev main_call5_v7 : Ref sig .tc := ⟨.hbm, 172, rfl⟩
abbrev main_call5_v8 : Ref sig .tc := ⟨.hbm, 173, rfl⟩
abbrev main_call5_v9 : Ref sig .tc := ⟨.hbm, 174, rfl⟩
abbrev main_call5_v10 : Ref sig .tc := ⟨.hbm, 175, rfl⟩
abbrev main_call5_v11 : Ref sig .tc := ⟨.hbm, 176, rfl⟩
abbrev main_call5_c_3 : Ref sig .tc := ⟨.hbm, 177, rfl⟩
abbrev main_call5_v12 : Ref sig .tc := ⟨.hbm, 178, rfl⟩
abbrev main_call5_v13 : Ref sig .tc := ⟨.hbm, 179, rfl⟩
abbrev main_call5_v14 : Ref sig .tc := ⟨.hbm, 180, rfl⟩
abbrev main_call5_cst : Ref sig .tc := ⟨.hbm, 181, rfl⟩
abbrev main_call5_v15 : Ref sig .tc := ⟨.hbm, 182, rfl⟩
abbrev main_v24 : Ref sig .tc := ⟨.hbm, 183, rfl⟩
abbrev main_v25 : Ref sig .tc := ⟨.hbm, 184, rfl⟩
abbrev main_v26 : Ref sig .tc := ⟨.hbm, 185, rfl⟩
abbrev main_v27 : Ref sig .tc := ⟨.hbm, 186, rfl⟩
abbrev main_call6_c : Ref sig .tc := ⟨.hbm, 187, rfl⟩
abbrev main_call6_v0 : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_c_1 : Ref sig .tc := ⟨.hbm, 195, rfl⟩
abbrev main_call6_c_2 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_3 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_call6_cst : Ref sig .tc := ⟨.hbm, 207, rfl⟩
abbrev main_call6_v15 : Ref sig .tc := ⟨.hbm, 208, rfl⟩
abbrev main_v28 : Ref sig .tc := ⟨.hbm, 209, rfl⟩
abbrev main_v29 : Ref sig .tc := ⟨.hbm, 210, rfl⟩
abbrev main_v30 : Ref sig .tc := ⟨.hbm, 211, rfl⟩
abbrev main_v31 : Ref sig .tc := ⟨.hbm, 212, rfl⟩
abbrev main_call7_c : Ref sig .tc := ⟨.hbm, 213, rfl⟩
abbrev main_call7_v0 : Ref sig .tc := ⟨.hbm, 214, rfl⟩
abbrev main_call7_v1 : Ref sig .tc := ⟨.hbm, 215, rfl⟩
abbrev main_call7_c_0 : Ref sig .tc := ⟨.hbm, 216, rfl⟩
abbrev main_call7_v2 : Ref sig .tc := ⟨.hbm, 217, rfl⟩
abbrev main_call7_v3 : Ref sig .tc := ⟨.hbm, 218, rfl⟩
abbrev main_call7_v4 : Ref sig .tc := ⟨.hbm, 219, rfl⟩
abbrev main_call7_v5 : Ref sig .tc := ⟨.hbm, 220, rfl⟩
abbrev main_call7_c_1 : Ref sig .tc := ⟨.hbm, 221, rfl⟩
abbrev main_call7_c_2 : Ref sig .tc := ⟨.hbm, 222, rfl⟩
abbrev main_call7_v6 : Ref sig .tc := ⟨.hbm, 223, rfl⟩
abbrev main_call7_v7 : Ref sig .tc := ⟨.hbm, 224, rfl⟩
abbrev main_call7_v8 : Ref sig .tc := ⟨.hbm, 225, rfl⟩
abbrev main_call7_v9 : Ref sig .tc := ⟨.hbm, 226, rfl⟩
abbrev main_call7_v10 : Ref sig .tc := ⟨.hbm, 227, rfl⟩
abbrev main_call7_v11 : Ref sig .tc := ⟨.hbm, 228, rfl⟩
abbrev main_call7_c_3 : Ref sig .tc := ⟨.hbm, 229, rfl⟩
abbrev main_call7_v12 : Ref sig .tc := ⟨.hbm, 230, rfl⟩
abbrev main_call7_v13 : Ref sig .tc := ⟨.hbm, 231, rfl⟩
abbrev main_call7_v14 : Ref sig .tc := ⟨.hbm, 232, rfl⟩
abbrev main_call7_cst : Ref sig .tc := ⟨.hbm, 233, rfl⟩
abbrev main_call7_v15 : Ref sig .tc := ⟨.hbm, 234, rfl⟩
abbrev main_v32 : Ref sig .tc := ⟨.hbm, 235, rfl⟩
abbrev main_v33 : Ref sig .tc := ⟨.hbm, 236, rfl⟩
abbrev main_v34 : Ref sig .tc := ⟨.hbm, 237, rfl⟩
abbrev main_v35 : Ref sig .tc := ⟨.hbm, 238, rfl⟩
abbrev main_call8_c : Ref sig .tc := ⟨.hbm, 239, rfl⟩
abbrev main_call8_v0 : Ref sig .tc := ⟨.hbm, 240, rfl⟩
abbrev main_call8_v1 : Ref sig .tc := ⟨.hbm, 241, rfl⟩
abbrev main_call8_c_0 : Ref sig .tc := ⟨.hbm, 242, rfl⟩
abbrev main_call8_v2 : Ref sig .tc := ⟨.hbm, 243, rfl⟩
abbrev main_call8_v3 : Ref sig .tc := ⟨.hbm, 244, rfl⟩
abbrev main_call8_v4 : Ref sig .tc := ⟨.hbm, 245, rfl⟩
abbrev main_call8_v5 : Ref sig .tc := ⟨.hbm, 246, rfl⟩
abbrev main_call8_c_1 : Ref sig .tc := ⟨.hbm, 247, rfl⟩
abbrev main_call8_c_2 : Ref sig .tc := ⟨.hbm, 248, rfl⟩
abbrev main_call8_v6 : Ref sig .tc := ⟨.hbm, 249, rfl⟩
abbrev main_call8_v7 : Ref sig .tc := ⟨.hbm, 250, rfl⟩
abbrev main_call8_v8 : Ref sig .tc := ⟨.hbm, 251, rfl⟩
abbrev main_call8_v9 : Ref sig .tc := ⟨.hbm, 252, rfl⟩
abbrev main_call8_v10 : Ref sig .tc := ⟨.hbm, 253, rfl⟩
abbrev main_call8_v11 : Ref sig .tc := ⟨.hbm, 254, rfl⟩
abbrev main_call8_c_3 : Ref sig .tc := ⟨.hbm, 255, rfl⟩
abbrev main_call8_v12 : Ref sig .tc := ⟨.hbm, 256, rfl⟩
abbrev main_call8_v13 : Ref sig .tc := ⟨.hbm, 257, rfl⟩
abbrev main_call8_v14 : Ref sig .tc := ⟨.hbm, 258, rfl⟩
abbrev main_call8_cst : Ref sig .tc := ⟨.hbm, 259, rfl⟩
abbrev main_call8_v15 : Ref sig .tc := ⟨.hbm, 260, rfl⟩
abbrev main_v36 : Ref sig .tc := ⟨.hbm, 261, rfl⟩
abbrev main_v37 : Ref sig .tc := ⟨.hbm, 262, rfl⟩
abbrev main_v38 : Ref sig .tc := ⟨.hbm, 263, rfl⟩
abbrev main_v39 : Ref sig .tc := ⟨.hbm, 264, rfl⟩
abbrev main_call9_c : Ref sig .tc := ⟨.hbm, 265, rfl⟩
abbrev main_call9_v0 : Ref sig .tc := ⟨.hbm, 266, rfl⟩
abbrev main_call9_v1 : Ref sig .tc := ⟨.hbm, 267, rfl⟩
abbrev main_call9_c_0 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_call9_v5 : Ref sig .tc := ⟨.hbm, 272, rfl⟩
abbrev main_call9_c_1 : Ref sig .tc := ⟨.hbm, 273, rfl⟩
abbrev main_call9_c_2 : Ref sig .tc := ⟨.hbm, 274, rfl⟩
abbrev main_call9_v6 : Ref sig .tc := ⟨.hbm, 275, rfl⟩
abbrev main_call9_v7 : Ref sig .tc := ⟨.hbm, 276, rfl⟩
abbrev main_call9_v8 : Ref sig .tc := ⟨.hbm, 277, rfl⟩
abbrev main_call9_v9 : Ref sig .tc := ⟨.hbm, 278, rfl⟩
abbrev main_call9_v10 : Ref sig .tc := ⟨.hbm, 279, rfl⟩
abbrev main_call9_v11 : Ref sig .tc := ⟨.hbm, 280, rfl⟩
abbrev main_call9_c_3 : Ref sig .tc := ⟨.hbm, 281, rfl⟩
abbrev main_call9_v12 : Ref sig .tc := ⟨.hbm, 282, rfl⟩
abbrev main_call9_v13 : Ref sig .tc := ⟨.hbm, 283, rfl⟩
abbrev main_call9_v14 : Ref sig .tc := ⟨.hbm, 284, rfl⟩
abbrev main_call9_cst : Ref sig .tc := ⟨.hbm, 285, rfl⟩
abbrev main_call9_v15 : Ref sig .tc := ⟨.hbm, 286, rfl⟩
abbrev main_v40 : Ref sig .tc := ⟨.hbm, 287, rfl⟩
abbrev main_v41 : Ref sig .tc := ⟨.hbm, 288, rfl⟩
abbrev main_v42 : Ref sig .tc := ⟨.hbm, 289, rfl⟩
abbrev main_v43 : Ref sig .tc := ⟨.hbm, 290, rfl⟩
abbrev main_call10_c : Ref sig .tc := ⟨.hbm, 291, rfl⟩
abbrev main_call10_v0 : Ref sig .tc := ⟨.hbm, 292, rfl⟩
abbrev main_call10_v1 : Ref sig .tc := ⟨.hbm, 293, rfl⟩
abbrev main_call10_c_0 : Ref sig .tc := ⟨.hbm, 294, rfl⟩
abbrev main_call10_v2 : Ref sig .tc := ⟨.hbm, 295, rfl⟩
abbrev main_call10_v3 : Ref sig .tc := ⟨.hbm, 296, rfl⟩
abbrev main_call10_v4 : Ref sig .tc := ⟨.hbm, 297, rfl⟩
abbrev main_call10_v5 : Ref sig .tc := ⟨.hbm, 298, rfl⟩
abbrev main_call10_c_1 : Ref sig .tc := ⟨.hbm, 299, rfl⟩
abbrev main_call10_c_2 : Ref sig .tc := ⟨.hbm, 300, rfl⟩
abbrev main_call10_v6 : Ref sig .tc := ⟨.hbm, 301, rfl⟩
abbrev main_call10_v7 : Ref sig .tc := ⟨.hbm, 302, rfl⟩
abbrev main_call10_v8 : Ref sig .tc := ⟨.hbm, 303, rfl⟩
abbrev main_call10_v9 : Ref sig .tc := ⟨.hbm, 304, rfl⟩
abbrev main_call10_v10 : Ref sig .tc := ⟨.hbm, 305, rfl⟩
abbrev main_call10_v11 : Ref sig .tc := ⟨.hbm, 306, rfl⟩
abbrev main_call10_c_3 : Ref sig .tc := ⟨.hbm, 307, rfl⟩
abbrev main_call10_v12 : Ref sig .tc := ⟨.hbm, 308, rfl⟩
abbrev main_call10_v13 : Ref sig .tc := ⟨.hbm, 309, rfl⟩
abbrev main_call10_v14 : Ref sig .tc := ⟨.hbm, 310, rfl⟩
abbrev main_call10_cst : Ref sig .tc := ⟨.hbm, 311, rfl⟩
abbrev main_call10_v15 : Ref sig .tc := ⟨.hbm, 312, rfl⟩
abbrev main_v44 : Ref sig .tc := ⟨.hbm, 313, rfl⟩
abbrev main_v45 : Ref sig .tc := ⟨.hbm, 314, rfl⟩
abbrev main_v46 : Ref sig .tc := ⟨.hbm, 315, rfl⟩
abbrev main_v47 : Ref sig .tc := ⟨.hbm, 316, rfl⟩
abbrev main_call11_c : Ref sig .tc := ⟨.hbm, 317, rfl⟩
abbrev main_call11_v0 : Ref sig .tc := ⟨.hbm, 318, rfl⟩
abbrev main_call11_v1 : Ref sig .tc := ⟨.hbm, 319, rfl⟩
abbrev main_call11_c_0 : Ref sig .tc := ⟨.hbm, 320, rfl⟩
abbrev main_call11_v2 : Ref sig .tc := ⟨.hbm, 321, rfl⟩
abbrev main_call11_v3 : Ref sig .tc := ⟨.hbm, 322, rfl⟩
abbrev main_call11_v4 : Ref sig .tc := ⟨.hbm, 323, rfl⟩
abbrev main_call11_v5 : Ref sig .tc := ⟨.hbm, 324, rfl⟩
abbrev main_call11_c_1 : Ref sig .tc := ⟨.hbm, 325, rfl⟩
abbrev main_call11_c_2 : Ref sig .tc := ⟨.hbm, 326, rfl⟩
abbrev main_call11_v6 : Ref sig .tc := ⟨.hbm, 327, rfl⟩
abbrev main_call11_v7 : Ref sig .tc := ⟨.hbm, 328, rfl⟩
abbrev main_call11_v8 : Ref sig .tc := ⟨.hbm, 329, rfl⟩
abbrev main_call11_v9 : Ref sig .tc := ⟨.hbm, 330, rfl⟩
abbrev main_call11_v10 : Ref sig .tc := ⟨.hbm, 331, rfl⟩
abbrev main_call11_v11 : Ref sig .tc := ⟨.hbm, 332, rfl⟩
abbrev main_call11_c_3 : Ref sig .tc := ⟨.hbm, 333, rfl⟩
abbrev main_call11_v12 : Ref sig .tc := ⟨.hbm, 334, rfl⟩
abbrev main_call11_v13 : Ref sig .tc := ⟨.hbm, 335, rfl⟩
abbrev main_call11_v14 : Ref sig .tc := ⟨.hbm, 336, rfl⟩
abbrev main_call11_cst : Ref sig .tc := ⟨.hbm, 337, rfl⟩
abbrev main_call11_v15 : Ref sig .tc := ⟨.hbm, 338, rfl⟩
abbrev main_v48 : Ref sig .tc := ⟨.hbm, 339, rfl⟩
abbrev main_v49 : Ref sig .tc := ⟨.hbm, 340, rfl⟩
abbrev main_cst_1 : Ref sig .tc := ⟨.hbm, 341, rfl⟩
abbrev main_v50 : Ref sig .tc := ⟨.hbm, 342, rfl⟩
abbrev main_v51 : Ref sig .tc := ⟨.hbm, 343, rfl⟩
abbrev main_v52 : Ref sig .tc := ⟨.hbm, 344, rfl⟩
abbrev main_call12_c : Ref sig .tc := ⟨.hbm, 345, rfl⟩
abbrev main_call12_v0 : Ref sig .tc := ⟨.hbm, 346, rfl⟩
abbrev main_call12_v1 : Ref sig .tc := ⟨.hbm, 347, rfl⟩
abbrev main_call12_c_0 : Ref sig .tc := ⟨.hbm, 348, rfl⟩
abbrev main_call12_v2 : Ref sig .tc := ⟨.hbm, 349, rfl⟩
abbrev main_call12_v3 : Ref sig .tc := ⟨.hbm, 350, rfl⟩
abbrev main_call12_v4 : Ref sig .tc := ⟨.hbm, 351, rfl⟩
abbrev main_call12_v5 : Ref sig .tc := ⟨.hbm, 352, rfl⟩
abbrev main_call12_c_1 : Ref sig .tc := ⟨.hbm, 353, rfl⟩
abbrev main_call12_c_2 : Ref sig .tc := ⟨.hbm, 354, rfl⟩
abbrev main_call12_v6 : Ref sig .tc := ⟨.hbm, 355, rfl⟩
abbrev main_call12_v7 : Ref sig .tc := ⟨.hbm, 356, rfl⟩
abbrev main_call12_v8 : Ref sig .tc := ⟨.hbm, 357, rfl⟩
abbrev main_call12_v9 : Ref sig .tc := ⟨.hbm, 358, rfl⟩
abbrev main_call12_v10 : Ref sig .tc := ⟨.hbm, 359, rfl⟩
abbrev main_call12_v11 : Ref sig .tc := ⟨.hbm, 360, rfl⟩
abbrev main_call12_c_3 : Ref sig .tc := ⟨.hbm, 361, rfl⟩
abbrev main_call12_v12 : Ref sig .tc := ⟨.hbm, 362, rfl⟩
abbrev main_call12_v13 : Ref sig .tc := ⟨.hbm, 363, rfl⟩
abbrev main_call12_v14 : Ref sig .tc := ⟨.hbm, 364, rfl⟩
abbrev main_call12_cst : Ref sig .tc := ⟨.hbm, 365, rfl⟩
abbrev main_call12_v15 : Ref sig .tc := ⟨.hbm, 366, rfl⟩
abbrev main_v53 : Ref sig .tc := ⟨.hbm, 367, rfl⟩
abbrev main_v54 : Ref sig .tc := ⟨.hbm, 368, rfl⟩
abbrev main_v55 : Ref sig .tc := ⟨.hbm, 369, rfl⟩
abbrev main_v56 : Ref sig .tc := ⟨.hbm, 370, rfl⟩
abbrev main_call13_c : Ref sig .tc := ⟨.hbm, 371, rfl⟩
abbrev main_call13_v0 : Ref sig .tc := ⟨.hbm, 372, rfl⟩
abbrev main_call13_v1 : Ref sig .tc := ⟨.hbm, 373, rfl⟩
abbrev main_call13_c_0 : Ref sig .tc := ⟨.hbm, 374, rfl⟩
abbrev main_call13_v2 : Ref sig .tc := ⟨.hbm, 375, rfl⟩
abbrev main_call13_v3 : Ref sig .tc := ⟨.hbm, 376, rfl⟩
abbrev main_call13_v4 : Ref sig .tc := ⟨.hbm, 377, rfl⟩
abbrev main_call13_v5 : Ref sig .tc := ⟨.hbm, 378, rfl⟩
abbrev main_call13_c_1 : Ref sig .tc := ⟨.hbm, 379, rfl⟩
abbrev main_call13_c_2 : Ref sig .tc := ⟨.hbm, 380, rfl⟩
abbrev main_call13_v6 : Ref sig .tc := ⟨.hbm, 381, rfl⟩
abbrev main_call13_v7 : Ref sig .tc := ⟨.hbm, 382, rfl⟩
abbrev main_call13_v8 : Ref sig .tc := ⟨.hbm, 383, rfl⟩
abbrev main_call13_v9 : Ref sig .tc := ⟨.hbm, 384, rfl⟩
abbrev main_call13_v10 : Ref sig .tc := ⟨.hbm, 385, rfl⟩
abbrev main_call13_v11 : Ref sig .tc := ⟨.hbm, 386, rfl⟩
abbrev main_call13_c_3 : Ref sig .tc := ⟨.hbm, 387, rfl⟩
abbrev main_call13_v12 : Ref sig .tc := ⟨.hbm, 388, rfl⟩
abbrev main_call13_v13 : Ref sig .tc := ⟨.hbm, 389, rfl⟩
abbrev main_call13_v14 : Ref sig .tc := ⟨.hbm, 390, rfl⟩
abbrev main_call13_cst : Ref sig .tc := ⟨.hbm, 391, rfl⟩
abbrev main_call13_v15 : Ref sig .tc := ⟨.hbm, 392, rfl⟩
abbrev main_v57 : Ref sig .tc := ⟨.hbm, 393, rfl⟩
abbrev main_v58 : Ref sig .tc := ⟨.hbm, 394, rfl⟩
abbrev main_v59 : Ref sig .tc := ⟨.hbm, 395, rfl⟩
abbrev main_v60 : Ref sig .tc := ⟨.hbm, 396, rfl⟩
abbrev main_call14_c : Ref sig .tc := ⟨.hbm, 397, rfl⟩
abbrev main_call14_v0 : Ref sig .tc := ⟨.hbm, 398, rfl⟩
abbrev main_call14_v1 : Ref sig .tc := ⟨.hbm, 399, rfl⟩
abbrev main_call14_c_0 : Ref sig .tc := ⟨.hbm, 400, rfl⟩
abbrev main_call14_v2 : Ref sig .tc := ⟨.hbm, 401, rfl⟩
abbrev main_call14_v3 : Ref sig .tc := ⟨.hbm, 402, rfl⟩
abbrev main_call14_v4 : Ref sig .tc := ⟨.hbm, 403, rfl⟩
abbrev main_call14_v5 : Ref sig .tc := ⟨.hbm, 404, rfl⟩
abbrev main_call14_c_1 : Ref sig .tc := ⟨.hbm, 405, rfl⟩
abbrev main_call14_c_2 : Ref sig .tc := ⟨.hbm, 406, rfl⟩
abbrev main_call14_v6 : Ref sig .tc := ⟨.hbm, 407, rfl⟩
abbrev main_call14_v7 : Ref sig .tc := ⟨.hbm, 408, rfl⟩
abbrev main_call14_v8 : Ref sig .tc := ⟨.hbm, 409, rfl⟩
abbrev main_call14_v9 : Ref sig .tc := ⟨.hbm, 410, rfl⟩
abbrev main_call14_v10 : Ref sig .tc := ⟨.hbm, 411, rfl⟩
abbrev main_call14_v11 : Ref sig .tc := ⟨.hbm, 412, rfl⟩
abbrev main_call14_c_3 : Ref sig .tc := ⟨.hbm, 413, rfl⟩
abbrev main_call14_v12 : Ref sig .tc := ⟨.hbm, 414, rfl⟩
abbrev main_call14_v13 : Ref sig .tc := ⟨.hbm, 415, rfl⟩
abbrev main_call14_v14 : Ref sig .tc := ⟨.hbm, 416, rfl⟩
abbrev main_call14_cst : Ref sig .tc := ⟨.hbm, 417, rfl⟩
abbrev main_call14_v15 : Ref sig .tc := ⟨.hbm, 418, rfl⟩
abbrev main_v61 : Ref sig .tc := ⟨.hbm, 419, rfl⟩
abbrev main_v62 : Ref sig .tc := ⟨.hbm, 420, rfl⟩
abbrev main_v63 : Ref sig .tc := ⟨.hbm, 421, rfl⟩
abbrev main_v64 : Ref sig .tc := ⟨.hbm, 422, rfl⟩
abbrev main_call15_c : Ref sig .tc := ⟨.hbm, 423, rfl⟩
abbrev main_call15_v0 : Ref sig .tc := ⟨.hbm, 424, rfl⟩
abbrev main_call15_v1 : Ref sig .tc := ⟨.hbm, 425, rfl⟩
abbrev main_call15_c_0 : Ref sig .tc := ⟨.hbm, 426, rfl⟩
abbrev main_call15_v2 : Ref sig .tc := ⟨.hbm, 427, rfl⟩
abbrev main_call15_v3 : Ref sig .tc := ⟨.hbm, 428, rfl⟩
abbrev main_call15_v4 : Ref sig .tc := ⟨.hbm, 429, rfl⟩
abbrev main_call15_v5 : Ref sig .tc := ⟨.hbm, 430, rfl⟩
abbrev main_call15_c_1 : Ref sig .tc := ⟨.hbm, 431, rfl⟩
abbrev main_call15_c_2 : Ref sig .tc := ⟨.hbm, 432, rfl⟩
abbrev main_call15_v6 : Ref sig .tc := ⟨.hbm, 433, rfl⟩
abbrev main_call15_v7 : Ref sig .tc := ⟨.hbm, 434, rfl⟩
abbrev main_call15_v8 : Ref sig .tc := ⟨.hbm, 435, rfl⟩
abbrev main_call15_v9 : Ref sig .tc := ⟨.hbm, 436, rfl⟩
abbrev main_call15_v10 : Ref sig .tc := ⟨.hbm, 437, rfl⟩
abbrev main_call15_v11 : Ref sig .tc := ⟨.hbm, 438, rfl⟩
abbrev main_call15_c_3 : Ref sig .tc := ⟨.hbm, 439, rfl⟩
abbrev main_call15_v12 : Ref sig .tc := ⟨.hbm, 440, rfl⟩
abbrev main_call15_v13 : Ref sig .tc := ⟨.hbm, 441, rfl⟩
abbrev main_call15_v14 : Ref sig .tc := ⟨.hbm, 442, rfl⟩
abbrev main_call15_cst : Ref sig .tc := ⟨.hbm, 443, rfl⟩
abbrev main_call15_v15 : Ref sig .tc := ⟨.hbm, 444, rfl⟩
abbrev main_v65 : Ref sig .tc := ⟨.hbm, 445, rfl⟩
abbrev main_v66 : Ref sig .tc := ⟨.hbm, 446, rfl⟩
abbrev main_v67 : Ref sig .tc := ⟨.hbm, 447, rfl⟩
abbrev main_v68 : Ref sig .tc := ⟨.hbm, 448, rfl⟩
abbrev main_call16_c : Ref sig .tc := ⟨.hbm, 449, rfl⟩
abbrev main_call16_v0 : Ref sig .tc := ⟨.hbm, 450, rfl⟩
abbrev main_call16_v1 : Ref sig .tc := ⟨.hbm, 451, rfl⟩
abbrev main_call16_c_0 : Ref sig .tc := ⟨.hbm, 452, rfl⟩
abbrev main_call16_v2 : Ref sig .tc := ⟨.hbm, 453, rfl⟩
abbrev main_call16_v3 : Ref sig .tc := ⟨.hbm, 454, rfl⟩
abbrev main_call16_v4 : Ref sig .tc := ⟨.hbm, 455, rfl⟩
abbrev main_call16_v5 : Ref sig .tc := ⟨.hbm, 456, rfl⟩
abbrev main_call16_c_1 : Ref sig .tc := ⟨.hbm, 457, rfl⟩
abbrev main_call16_c_2 : Ref sig .tc := ⟨.hbm, 458, rfl⟩
abbrev main_call16_v6 : Ref sig .tc := ⟨.hbm, 459, rfl⟩
abbrev main_call16_v7 : Ref sig .tc := ⟨.hbm, 460, rfl⟩
abbrev main_call16_v8 : Ref sig .tc := ⟨.hbm, 461, rfl⟩
abbrev main_call16_v9 : Ref sig .tc := ⟨.hbm, 462, rfl⟩
abbrev main_call16_v10 : Ref sig .tc := ⟨.hbm, 463, rfl⟩
abbrev main_call16_v11 : Ref sig .tc := ⟨.hbm, 464, rfl⟩
abbrev main_call16_c_3 : Ref sig .tc := ⟨.hbm, 465, rfl⟩
abbrev main_call16_v12 : Ref sig .tc := ⟨.hbm, 466, rfl⟩
abbrev main_call16_v13 : Ref sig .tc := ⟨.hbm, 467, rfl⟩
abbrev main_call16_v14 : Ref sig .tc := ⟨.hbm, 468, rfl⟩
abbrev main_call16_cst : Ref sig .tc := ⟨.hbm, 469, rfl⟩
abbrev main_call16_v15 : Ref sig .tc := ⟨.hbm, 470, rfl⟩
abbrev main_v69 : Ref sig .tc := ⟨.hbm, 471, rfl⟩
abbrev main_v70 : Ref sig .tc := ⟨.hbm, 472, rfl⟩
abbrev main_v71 : Ref sig .tc := ⟨.hbm, 473, rfl⟩
abbrev main_v72 : Ref sig .tc := ⟨.hbm, 474, rfl⟩
abbrev main_call17_c : Ref sig .tc := ⟨.hbm, 475, rfl⟩
abbrev main_call17_v0 : Ref sig .tc := ⟨.hbm, 476, rfl⟩
abbrev main_call17_v1 : Ref sig .tc := ⟨.hbm, 477, rfl⟩
abbrev main_call17_c_0 : Ref sig .tc := ⟨.hbm, 478, rfl⟩
abbrev main_call17_v2 : Ref sig .tc := ⟨.hbm, 479, rfl⟩
abbrev main_call17_v3 : Ref sig .tc := ⟨.hbm, 480, rfl⟩
abbrev main_call17_v4 : Ref sig .tc := ⟨.hbm, 481, rfl⟩
abbrev main_call17_v5 : Ref sig .tc := ⟨.hbm, 482, rfl⟩
abbrev main_call17_c_1 : Ref sig .tc := ⟨.hbm, 483, rfl⟩
abbrev main_call17_c_2 : Ref sig .tc := ⟨.hbm, 484, rfl⟩
abbrev main_call17_v6 : Ref sig .tc := ⟨.hbm, 485, rfl⟩
abbrev main_call17_v7 : Ref sig .tc := ⟨.hbm, 486, rfl⟩
abbrev main_call17_v8 : Ref sig .tc := ⟨.hbm, 487, rfl⟩
abbrev main_call17_v9 : Ref sig .tc := ⟨.hbm, 488, rfl⟩
abbrev main_call17_v10 : Ref sig .tc := ⟨.hbm, 489, rfl⟩
abbrev main_call17_v11 : Ref sig .tc := ⟨.hbm, 490, rfl⟩
abbrev main_call17_c_3 : Ref sig .tc := ⟨.hbm, 491, rfl⟩
abbrev main_call17_v12 : Ref sig .tc := ⟨.hbm, 492, rfl⟩
abbrev main_call17_v13 : Ref sig .tc := ⟨.hbm, 493, rfl⟩
abbrev main_call17_v14 : Ref sig .tc := ⟨.hbm, 494, rfl⟩
abbrev main_call17_cst : Ref sig .tc := ⟨.hbm, 495, rfl⟩
abbrev main_call17_v15 : Ref sig .tc := ⟨.hbm, 496, rfl⟩
abbrev main_v73 : Ref sig .tc := ⟨.hbm, 497, rfl⟩
abbrev main_v74 : Ref sig .tc := ⟨.hbm, 498, rfl⟩
abbrev main_v75 : Ref sig .tc := ⟨.hbm, 499, rfl⟩
abbrev main_v76 : Ref sig .tc := ⟨.hbm, 500, rfl⟩
abbrev main_call18_c : Ref sig .tc := ⟨.hbm, 501, rfl⟩
abbrev main_call18_v0 : Ref sig .tc := ⟨.hbm, 502, rfl⟩
abbrev main_call18_v1 : Ref sig .tc := ⟨.hbm, 503, rfl⟩
abbrev main_call18_c_0 : Ref sig .tc := ⟨.hbm, 504, rfl⟩
abbrev main_call18_v2 : Ref sig .tc := ⟨.hbm, 505, rfl⟩
abbrev main_call18_v3 : Ref sig .tc := ⟨.hbm, 506, rfl⟩
abbrev main_call18_v4 : Ref sig .tc := ⟨.hbm, 507, rfl⟩
abbrev main_call18_v5 : Ref sig .tc := ⟨.hbm, 508, rfl⟩
abbrev main_call18_c_1 : Ref sig .tc := ⟨.hbm, 509, rfl⟩
abbrev main_call18_c_2 : Ref sig .tc := ⟨.hbm, 510, rfl⟩
abbrev main_call18_v6 : Ref sig .tc := ⟨.hbm, 511, rfl⟩
abbrev main_call18_v7 : Ref sig .tc := ⟨.hbm, 512, rfl⟩
abbrev main_call18_v8 : Ref sig .tc := ⟨.hbm, 513, rfl⟩
abbrev main_call18_v9 : Ref sig .tc := ⟨.hbm, 514, rfl⟩
abbrev main_call18_v10 : Ref sig .tc := ⟨.hbm, 515, rfl⟩
abbrev main_call18_v11 : Ref sig .tc := ⟨.hbm, 516, rfl⟩
abbrev main_call18_c_3 : Ref sig .tc := ⟨.hbm, 517, rfl⟩
abbrev main_call18_v12 : Ref sig .tc := ⟨.hbm, 518, rfl⟩
abbrev main_call18_v13 : Ref sig .tc := ⟨.hbm, 519, rfl⟩
abbrev main_call18_v14 : Ref sig .tc := ⟨.hbm, 520, rfl⟩
abbrev main_call18_cst : Ref sig .tc := ⟨.hbm, 521, rfl⟩
abbrev main_call18_v15 : Ref sig .tc := ⟨.hbm, 522, rfl⟩
abbrev main_v77 : Ref sig .tc := ⟨.hbm, 523, rfl⟩
abbrev main_v78 : Ref sig .tc := ⟨.hbm, 524, rfl⟩
abbrev main_v79 : Ref sig .tc := ⟨.hbm, 525, rfl⟩
abbrev main_v80 : Ref sig .tc := ⟨.hbm, 526, rfl⟩
abbrev main_call19_c : Ref sig .tc := ⟨.hbm, 527, rfl⟩
abbrev main_call19_v0 : Ref sig .tc := ⟨.hbm, 528, rfl⟩
abbrev main_call19_v1 : Ref sig .tc := ⟨.hbm, 529, rfl⟩
abbrev main_call19_c_0 : Ref sig .tc := ⟨.hbm, 530, rfl⟩
abbrev main_call19_v2 : Ref sig .tc := ⟨.hbm, 531, rfl⟩
abbrev main_call19_v3 : Ref sig .tc := ⟨.hbm, 532, rfl⟩
abbrev main_call19_v4 : Ref sig .tc := ⟨.hbm, 533, rfl⟩
abbrev main_call19_v5 : Ref sig .tc := ⟨.hbm, 534, rfl⟩
abbrev main_call19_c_1 : Ref sig .tc := ⟨.hbm, 535, rfl⟩
abbrev main_call19_c_2 : Ref sig .tc := ⟨.hbm, 536, rfl⟩
abbrev main_call19_v6 : Ref sig .tc := ⟨.hbm, 537, rfl⟩
abbrev main_call19_v7 : Ref sig .tc := ⟨.hbm, 538, rfl⟩
abbrev main_call19_v8 : Ref sig .tc := ⟨.hbm, 539, rfl⟩
abbrev main_call19_v9 : Ref sig .tc := ⟨.hbm, 540, rfl⟩
abbrev main_call19_v10 : Ref sig .tc := ⟨.hbm, 541, rfl⟩
abbrev main_call19_v11 : Ref sig .tc := ⟨.hbm, 542, rfl⟩
abbrev main_call19_c_3 : Ref sig .tc := ⟨.hbm, 543, rfl⟩
abbrev main_call19_v12 : Ref sig .tc := ⟨.hbm, 544, rfl⟩
abbrev main_call19_v13 : Ref sig .tc := ⟨.hbm, 545, rfl⟩
abbrev main_call19_v14 : Ref sig .tc := ⟨.hbm, 546, rfl⟩
abbrev main_call19_cst : Ref sig .tc := ⟨.hbm, 547, rfl⟩
abbrev main_call19_v15 : Ref sig .tc := ⟨.hbm, 548, rfl⟩
abbrev main_v81 : Ref sig .tc := ⟨.hbm, 549, rfl⟩
abbrev main_v82 : Ref sig .tc := ⟨.hbm, 550, rfl⟩
abbrev main_v83 : Ref sig .tc := ⟨.hbm, 551, rfl⟩
abbrev main_v84 : Ref sig .tc := ⟨.hbm, 552, rfl⟩
abbrev main_call20_c : Ref sig .tc := ⟨.hbm, 553, rfl⟩
abbrev main_call20_v0 : Ref sig .tc := ⟨.hbm, 554, rfl⟩
abbrev main_call20_v1 : Ref sig .tc := ⟨.hbm, 555, rfl⟩
abbrev main_call20_c_0 : Ref sig .tc := ⟨.hbm, 556, rfl⟩
abbrev main_call20_v2 : Ref sig .tc := ⟨.hbm, 557, rfl⟩
abbrev main_call20_v3 : Ref sig .tc := ⟨.hbm, 558, rfl⟩
abbrev main_call20_v4 : Ref sig .tc := ⟨.hbm, 559, rfl⟩
abbrev main_call20_v5 : Ref sig .tc := ⟨.hbm, 560, rfl⟩
abbrev main_call20_c_1 : Ref sig .tc := ⟨.hbm, 561, rfl⟩
abbrev main_call20_c_2 : Ref sig .tc := ⟨.hbm, 562, rfl⟩
abbrev main_call20_v6 : Ref sig .tc := ⟨.hbm, 563, rfl⟩
abbrev main_call20_v7 : Ref sig .tc := ⟨.hbm, 564, rfl⟩
abbrev main_call20_v8 : Ref sig .tc := ⟨.hbm, 565, rfl⟩
abbrev main_call20_v9 : Ref sig .tc := ⟨.hbm, 566, rfl⟩
abbrev main_call20_v10 : Ref sig .tc := ⟨.hbm, 567, rfl⟩
abbrev main_call20_v11 : Ref sig .tc := ⟨.hbm, 568, rfl⟩
abbrev main_call20_c_3 : Ref sig .tc := ⟨.hbm, 569, rfl⟩
abbrev main_call20_v12 : Ref sig .tc := ⟨.hbm, 570, rfl⟩
abbrev main_call20_v13 : Ref sig .tc := ⟨.hbm, 571, rfl⟩
abbrev main_call20_v14 : Ref sig .tc := ⟨.hbm, 572, rfl⟩
abbrev main_call20_cst : Ref sig .tc := ⟨.hbm, 573, rfl⟩
abbrev main_call20_v15 : Ref sig .tc := ⟨.hbm, 574, rfl⟩
abbrev main_v85 : Ref sig .tc := ⟨.hbm, 575, rfl⟩
abbrev main_v86 : Ref sig .tc := ⟨.hbm, 576, rfl⟩
abbrev main_v87 : Ref sig .tc := ⟨.hbm, 577, rfl⟩
abbrev main_v88 : Ref sig .tc := ⟨.hbm, 578, rfl⟩
abbrev main_v89 : Ref sig .tc := ⟨.hbm, 579, rfl⟩
abbrev main_v90 : Ref sig .tc := ⟨.hbm, 580, rfl⟩
abbrev main_v91 : Ref sig .tc := ⟨.hbm, 581, rfl⟩
abbrev main_v92 : Ref sig .tc := ⟨.hbm, 582, rfl⟩
abbrev main_v93 : Ref sig .tc := ⟨.hbm, 583, rfl⟩
abbrev main_v94 : Ref sig .tc := ⟨.hbm, 584, rfl⟩
abbrev main_v95 : Ref sig .tc := ⟨.hbm, 585, rfl⟩
abbrev main_cst_2 : Ref sig .tc := ⟨.hbm, 586, rfl⟩
abbrev main_call21_v0 : Ref sig .tc := ⟨.hbm, 587, rfl⟩
abbrev main_call21_v1 : Ref sig .tc := ⟨.hbm, 588, rfl⟩
abbrev main_v96 : Ref sig .tc := ⟨.hbm, 589, rfl⟩
abbrev main_v97 : Ref sig .tc := ⟨.hbm, 590, rfl⟩
abbrev main_v98 : Ref sig .tc := ⟨.hbm, 591, rfl⟩
abbrev main_v99 : Ref sig .tc := ⟨.hbm, 592, rfl⟩
abbrev main_v100 : Ref sig .tc := ⟨.hbm, 593, rfl⟩
abbrev main_call22_cst : Ref sig .tc := ⟨.hbm, 594, rfl⟩
abbrev main_call22_v0 : Ref sig .tc := ⟨.hbm, 595, rfl⟩
abbrev main_v101 : Ref sig .tc := ⟨.hbm, 596, rfl⟩
abbrev main_v102 : Ref sig .tc := ⟨.hbm, 597, rfl⟩
abbrev main_v103 : Ref sig .tc := ⟨.hbm, 598, rfl⟩
abbrev main_v104 : Ref sig .tc := ⟨.hbm, 599, rfl⟩
abbrev main_v105 : Ref sig .tc := ⟨.hbm, 600, rfl⟩
abbrev main_call23_cst : Ref sig .tc := ⟨.hbm, 601, rfl⟩
abbrev main_call23_v0 : Ref sig .tc := ⟨.hbm, 602, rfl⟩
abbrev main_v106 : Ref sig .tc := ⟨.hbm, 603, rfl⟩
abbrev main_v107 : Ref sig .tc := ⟨.hbm, 604, rfl⟩
abbrev main_v108 : Ref sig .tc := ⟨.hbm, 605, rfl⟩
abbrev main_v109 : Ref sig .tc := ⟨.hbm, 606, rfl⟩
abbrev main_v110 : Ref sig .tc := ⟨.hbm, 607, rfl⟩
abbrev main_call24_cst : Ref sig .tc := ⟨.hbm, 608, rfl⟩
abbrev main_call24_v0 : Ref sig .tc := ⟨.hbm, 609, rfl⟩
abbrev main_v111 : Ref sig .tc := ⟨.hbm, 610, rfl⟩
abbrev main_v112 : Ref sig .tc := ⟨.hbm, 611, rfl⟩
abbrev main_v113 : Ref sig .tc := ⟨.hbm, 612, rfl⟩
abbrev main_v114 : Ref sig .tc := ⟨.hbm, 613, rfl⟩
abbrev main_v115 : Ref sig .tc := ⟨.hbm, 614, rfl⟩
abbrev main_call25_cst : Ref sig .tc := ⟨.hbm, 615, rfl⟩
abbrev main_call25_v0 : Ref sig .tc := ⟨.hbm, 616, rfl⟩
abbrev main_v116 : Ref sig .tc := ⟨.hbm, 617, rfl⟩
abbrev main_v117 : Ref sig .tc := ⟨.hbm, 618, rfl⟩
abbrev main_cst_3 : Ref sig .tc := ⟨.hbm, 619, rfl⟩
abbrev main_call26_v0 : Ref sig .tc := ⟨.hbm, 620, rfl⟩
abbrev main_call26_v1 : Ref sig .tc := ⟨.hbm, 621, rfl⟩
abbrev main_call26_v2 : Ref sig .tc := ⟨.hbm, 622, rfl⟩
abbrev main_v118 : Ref sig .tc := ⟨.hbm, 623, rfl⟩
abbrev main_cst_4 : Ref sig .tc := ⟨.hbm, 624, rfl⟩
abbrev main_v119 : Ref sig .tc := ⟨.hbm, 625, rfl⟩
abbrev main_v120 : Ref sig .tc := ⟨.hbm, 626, rfl⟩

abbrev nD : Nat := 1
abbrev τ : Topo := Topo.v7x

variable {F : FTy → Type} [FloatOps F]
-- ==== Proof.RefTake.lean ====
module

public import Idealize.ShloMosaic.Lib.Pointwise
public import Idealize.ShloMosaic.Lib.Routing.Ops
public import Idealize.ShloMosaic.Lib.ReduceAll
public import proofs.«01_k».proof.Proof.Gen.ReferenceIdeal.Run

@[expose] public section

set_option maxRecDepth 16384

noncomputable section

/-! One lookup of the reference: a row of a table, chosen by a column of index words. -/

namespace Cert.RefTake

open Idealize.ShloMosaic Cert.ReferenceIdeal Cert.ReferenceIdeal.Gen

/-- The index words, with the table's height `n` added to a negative one, as a column. -/
def wrapped (n : BitVec 32) (ix : IVec S100000 32) : IVec S100000x1 32 :=
  broadcastInDim S100000x1 ![0] bcast_S100000_S100000x1_0
    (select (cmpi .slt ix (broadcastInDim S100000 ![] bcast_S_S100000 (constantI S_ 32 0#32)))
      (addi ix (broadcastInDim S100000 ![] bcast_S_S100000 (constantI S_ 32 n))) ix)

/-- Whether an index word lies between 0 and `last`. -/
def inside (n last : BitVec 32) (ix : IVec S100000 32) : IVec S100000x1 1 :=
  andi (cmpi .sge (wrapped n ix) (broadcastInDim S100000x1 ![] bcast_S_S100000x1 (constantI S_ 32 0#32)))
    (cmpi .sle (wrapped n ix) (broadcastInDim S100000x1 ![0, 1] bcast_S1x1_S100000x1_0_1
      (broadcastInDim S1x1 ![1] bcast_S1_S1x1_1 (constantI S1 32 last))))

/-- The rows of a table at the index words, and a fill value where the word is outside the table. -/
def take {D : ℕ} (g : GatherDims (⟨2, ![D, 128]⟩ : Shape) S100000x1 S100000x128) (n last : BitVec 32)
    (tbl : FVec Ideal (⟨2, ![D, 128]⟩ : Shape) .f32) (ix : IVec S100000 32) : FVec Ideal S100000x128 .f32 :=
  select (broadcastInDim S100000x128 ![0] bcast_S100000_S100000x128_0
      (Host.reduce IntOp.andi (inside n last ix) (constantI S_ 1 1#1) reducesTo_S100000x1_S100000_d1 h_S_))
    (Host.gather g tbl (wrapped n ix))
    (broadcastInDim S100000x128 ![] bcast_S_S100000x128 (constant S_ .f32 0x7FC00000#32))

/-- The row that a word names: row 0 for the word 0, row 1 for every other word. -/
def bitRow (w : BitVec 32) : Fin 2 := if w = 0#32 then 0 else 1

/-- A word that is 0 or 1 is the number of the row it names. -/
theorem bitRow_spec (w : BitVec 32) (h : w = 0#32 ∨ w = 1#32) : w = BitVec.ofNat 32 (bitRow w).val := by
  rcases h with e | e <;> rw [e] <;> rfl

/-- An index that is 0 or 1 is not negative, so it is not wrapped. -/
theorem wrapped_apply (n : BitVec 32) (ix : IVec S100000 32) (h : ∀ r : Fin 100000, ix (ix1 r) = 0#32 ∨ ix (ix1 r) = 1#32)
    (r : Fin 100000) (c : Fin 1) : wrapped n ix (ix2 r c) = ix (ix1 r) := by
  pointwise [wrapped]
  rcases h r with e | e <;> rw [e] <;> rfl

/-- A lookup at words 0 and 1 reads the table's row 0 or 1. -/
theorem take_apply {D : ℕ} (g : GatherDims (⟨2, ![D, 128]⟩ : Shape) S100000x1 S100000x128) (hoff : g.offsetDims = [1])
    (hcoll : g.collapsedSliceDims = [0]) (hob : g.operandBatchingDims = []) (hsim : g.startIndexMap = [0])
    (hivd : g.indexVectorDim = 1) (n last : BitVec 32) (hl0 : IntOp.cmpi .sle 0#32 last = 1#1) (hl1 : IntOp.cmpi .sle 1#32 last = 1#1)
    (tbl : FVec Ideal (⟨2, ![D, 128]⟩ : Shape) .f32) (hD : 2 ≤ D) (hD' : D < 2 ^ 31)
    (ix : IVec S100000 32) (h : ∀ r : Fin 100000, ix (ix1 r) = 0#32 ∨ ix (ix1 r) = 1#32) (r : Fin 100000) (k : Fin 128) :
    take g n last tbl ix (ix2 r k) = tbl (ix2 ⟨(bitRow (ix (ix1 r))).val, by omega⟩ k) := by
  have hm : Host.reduce IntOp.andi (inside n last ix) (constantI S_ 1 1#1) reducesTo_S100000x1_S100000_d1 h_S_ (ix1 r) = 1#1 := by
    refine Host.reduce_andi_one _ _ _ _ _ rfl fun i => ?_
    have key : ∀ (a : Fin 100000) (b : Fin 1), inside n last ix (ix2 a b) = 1#1 := fun a b => by
      pointwise [inside]
      rw [wrapped_apply n ix h]
      rcases h a with e | e <;> rw [e]
      · rw [hl0]; rfl
      · rw [hl1]; rfl
    idx_vars i
    exact key _ _
  have hg : Host.gather g tbl (wrapped n ix) (ix2 r k) = tbl (ix2 ⟨(bitRow (ix (ix1 r))).val, by omega⟩ k) := by
    have := Routing.gather_row g hoff hcoll hob hsim hivd tbl (wrapped n ix) r k ⟨(bitRow (ix (ix1 r))).val, by omega⟩ (by
      rw [← ix2_eq_valueIdx, wrapped_apply n ix h]
      exact bitRow_spec _ (h r)) hD'
    exact this
  have hb : ∀ v : IVec S100000 1, broadcastInDim S100000x128 ![0] bcast_S100000_S100000x128_0 v (ix2 r k) = v (ix1 r) := fun v => by
    pointwise
  unfold take
  generalize broadcastInDim S100000x128 ![] bcast_S_S100000x128 (constant (F := Ideal) S_ .f32 0x7FC00000#32) = fill
  show Scalar.select (broadcastInDim S100000x128 ![0] bcast_S100000_S100000x128_0
      (Host.reduce IntOp.andi (inside n last ix) (constantI S_ 1 1#1) reducesTo_S100000x1_S100000_d1 h_S_) (ix2 r k))
    (Host.gather g tbl (wrapped n ix) (ix2 r k)) (fill (ix2 r k)) = _
  rw [hb, hm, hg]
  rfl

end Cert.RefTake

end
-- ==== Proof.RefFeat.lean ====
module

public import proofs.«01_k».proof.Proof.RefTake
public import proofs.«01_k».proof.Proof.Gen.ReferenceIdeal.Read

@[expose] public section

set_option maxRecDepth 16384

noncomputable section

/-! The reference's feature vector of a row: sums of the table rows which the row's 21 numbers choose. -/

namespace Cert.RefFeat

open Idealize.ShloMosaic Cert.ReferenceIdeal Cert.ReferenceIdeal.Gen Cert.ReferenceIdeal.Read Cert.RefTake

/-- Row 0 or 1 of a table of at least two rows. -/
def rowAt {D : ℕ} (hD : 2 ≤ D) (t : FVec Ideal (⟨2, ![D, 128]⟩ : Shape) .f32) (b : Fin 2) (k : Fin 128) : EReal :=
  t (ix2 ⟨b.val, by omega⟩ k)

/-- Every one of the categories is 0 or 1. -/
def Binary (x : IVec S100000x21 32) : Prop := ∀ (r : Fin 100000) (i : Fin 21), x (ix2 r i) = 0#32 ∨ x (ix2 r i) = 1#32

/-- Category column 0, cut out of the categories and flattened, at a row. -/
theorem col0 (x : IVec S100000x21 32) (r : Fin 100000) : val_main_v2 (F := Ideal) x (ix1 r) = x (ix2 r 0) := by
  have h : ∀ (x : IVec S100000x21 32), (shapeCast S100000 (extractStridedSlice S100000x1 ![0, 0] x slices_S100000x21_S100000x1_0_0)
      shapeCasts_S100000x1_S100000 : IVec S100000 32) (ix1 r) = x (ix2 r 0) := fun x => by
    pointwise
  exact h x

/-- Lookup 0: the row of its table that column 0 chooses. -/
theorem look0 (x : IVec S100000x21 32) (hx : Binary x) (t : FVec Ideal S5x128 .f32) (r : Fin 100000) (k : Fin 128) :
    val_main_v3 (F := Ideal) x t (ix2 r k) = rowAt (D := 5) (by omega) t (bitRow (x (ix2 r 0))) k := by
  have e : val_main_v3 (F := Ideal) x t
      = take gather_S5x128_S100000x1_S100000x128_1_0_n_n_0_1_1128 5#32 4#32 t (val_main_v2 (F := Ideal) x) := rfl
  have h : ∀ r : Fin 100000, (val_main_v2 (F := Ideal) x : IVec S100000 32) (ix1 r) = 0#32
      ∨ (val_main_v2 (F := Ideal) x : IVec S100000 32) (ix1 r) = 1#32 := fun r => by rw [col0]; exact hx r 0
  rw [e]
  refine (take_apply _ rfl rfl rfl rfl rfl 5#32 4#32 (by decide) (by decide) t (by omega) (by omega) _ h r k).trans ?_
  have hc := col0 x r
  unfold rowAt
  simp only [hc]

/-- Category column 1, cut out of the categories and flattened, at a row. -/
theorem col1 (x : IVec S100000x21 32) (r : Fin 100000) : val_main_v6 (F := Ideal) x (ix1 r) = x (ix2 r 1) := by
  have h : ∀ (x : IVec S100000x21 32), (shapeCast S100000 (extractStridedSlice S100000x1 ![0, 1] x slices_S100000x21_S100000x1_0_1)
      shapeCasts_S100000x1_S100000 : IVec S100000 32) (ix1 r) = x (ix2 r 1) := fun x => by
    pointwise
  exact h x

/-- Lookup 1: the row of its table that column 1 chooses. -/
theorem look1 (x : IVec S100000x21 32) (hx : Binary x) (t : FVec Ideal S6x128 .f32) (r : Fin 100000) (k : Fin 128) :
    val_main_v7 (F := Ideal) x t (ix2 r k) = rowAt (D := 6) (by omega) t (bitRow (x (ix2 r 1))) k := by
  have e : val_main_v7 (F := Ideal) x t
      = take gather_S6x128_S100000x1_S100000x128_1_0_n_n_0_1_1128 6#32 5#32 t (val_main_v6 (F := Ideal) x) := rfl
  have h : ∀ r : Fin 100000, (val_main_v6 (F := Ideal) x : IVec S100000 32) (ix1 r) = 0#32
      ∨ (val_main_v6 (F := Ideal) x : IVec S100000 32) (ix1 r) = 1#32 := fun r => by rw [col1]; exact hx r 1
  rw [e]
  refine (take_apply _ rfl rfl rfl rfl rfl 6#32 5#32 (by decide) (by decide) t (by omega) (by omega) _ h r k).trans ?_
  have hc := col1 x r
  unfold rowAt
  simp only [hc]

/-- Category column 2, cut out of the categories and flattened, at a row. -/
theorem col2 (x : IVec S100000x21 32) (r : Fin 100000) : val_main_v10 (F := Ideal) x (ix1 r) = x (ix2 r 2) := by
  have h : ∀ (x : IVec S100000x21 32), (shapeCast S100000 (extractStridedSlice S100000x1 ![0, 2] x slices_S100000x21_S100000x1_0_2)
      shapeCasts_S100000x1_S100000 : IVec S100000 32) (ix1 r) = x (ix2 r 2) := fun x => by
    pointwise
  exact h x

/-- Lookup 2: the row of its table that column 2 chooses. -/
theorem look2 (x : IVec S100000x21 32) (hx : Binary x) (t : FVec Ideal S3x128 .f32) (r : Fin 100000) (k : Fin 128) :
    val_main_v11 (F := Ideal) x t (ix2 r k) = rowAt (D := 3) (by omega) t (bitRow (x (ix2 r 2))) k := by
  have e : val_main_v11 (F := Ideal) x t
      = take gather_S3x128_S100000x1_S100000x128_1_0_n_n_0_1_1128 3#32 2#32 t (val_main_v10 (F := Ideal) x) := rfl
  have h : ∀ r : Fin 100000, (val_main_v10 (F := Ideal) x : IVec S100000 32) (ix1 r) = 0#32
      ∨ (val_main_v10 (F := Ideal) x : IVec S100000 32) (ix1 r) = 1#32 := fun r => by rw [col2]; exact hx r 2
  rw [e]
  refine (take_apply _ rfl rfl rfl rfl rfl 3#32 2#32 (by decide) (by decide) t (by omega) (by omega) _ h r k).trans ?_
  have hc := col2 x r
  unfold rowAt
  simp only [hc]

/-- Category column 3, cut out of the categories and flattened, at a row. -/
theorem col3 (x : IVec S100000x21 32) (r : Fin 100000) : val_main_v15 (F := Ideal) x (ix1 r) = x (ix2 r 3) := by
  have h : ∀ (x : IVec S100000x21 32), (shapeCast S100000 (extractStridedSlice S100000x1 ![0, 3] x slices_S100000x21_S100000x1_0_3)
      shapeCasts_S100000x1_S100000 : IVec S100000 32) (ix1 r) = x (ix2 r 3) := fun x => by
    pointwise
  exact h x

/-- Lookup 3: the row of its table that column 3 chooses. -/
theorem look3 (x : IVec S100000x21 32) (hx : Binary x) (t : FVec Ideal S119x128 .f32) (r : Fin 100000) (k : Fin 128) :
    val_main_v16 (F := Ideal) x t (ix2 r k) = rowAt (D := 119) (by omega) t (bitRow (x (ix2 r 3))) k := by
  have e : val_main_v16 (F := Ideal) x t
      = take gather_S119x128_S100000x1_S100000x128_1_0_n_n_0_1_1128 119#32 118#32 t (val_main_v15 (F := Ideal) x) := rfl
  have h : ∀ r : Fin 100000, (val_main_v15 (F := Ideal) x : IVec S100000 32) (ix1 r) = 0#32
      ∨ (val_main_v15 (F := Ideal) x : IVec S100000 32) (ix1 r) = 1#32 := fun r => by rw [col3]; exact hx r 3
  rw [e]
  refine (take_apply _ rfl rfl rfl rfl rfl 119#32 118#32 (by decide) (by decide) t (by omega) (by omega) _ h r k).trans ?_
  have hc := col3 x r
  unfold rowAt
  simp only [hc]

/-- Category column 4, cut out of the categories and flattened, at a row. -/
theorem col4 (x : IVec S100000x21 32) (r : Fin 100000) : val_main_v19 (F := Ideal) x (ix1 r) = x (ix2 r 4) := by
  have h : ∀ (x : IVec S100000x21 32), (shapeCast S100000 (extractStridedSlice S100000x1 ![0, 4] x slices_S100000x21_S100000x1_0_4)
      shapeCasts_S100000x1_S100000 : IVec S100000 32) (ix1 r) = x (ix2 r 4) := fun x => by
    pointwise
  exact h x

/-- Lookup 4: the row of its table that column 4 chooses. -/
theorem look4 (x : IVec S100000x21 32) (hx : Binary x) (t : FVec Ideal S4x128 .f32) (r : Fin 100000) (k : Fin 128) :
    val_main_v20 (F := Ideal) x t (ix2 r k) = rowAt (D := 4) (by omega) t (bitRow (x (ix2 r 4))) k := by
  have e : val_main_v20 (F := Ideal) x t
      = take gather_S4x128_S100000x1_S100000x128_1_0_n_n_0_1_1128 4#32 3#32 t (val_main_v19 (F := Ideal) x) := rfl
  have h : ∀ r : Fin 100000, (val_main_v19 (F := Ideal) x : IVec S100000 32) (ix1 r) = 0#32
      ∨ (val_main_v19 (F := Ideal) x : IVec S100000 32) (ix1 r) = 1#32 := fun r => by rw [col4]; exact hx r 4
  rw [e]
  refine (take_apply _ rfl rfl rfl rfl rfl 4#32 3#32 (by decide) (by decide) t (by omega) (by omega) _ h r k).trans ?_
  have hc := col4 x r
  unfold rowAt
  simp only [hc]

/-- Category column 5, cut out of the categories and flattened, at a row. -/
theorem col5 (x : IVec S100000x21 32) (r : Fin 100000) : val_main_v23 (F := Ideal) x (ix1 r) = x (ix2 r 5) := by
  have h : ∀ (x : IVec S100000x21 32), (shapeCast S100000 (extractStridedSlice S100000x1 ![0, 5] x slices_S100000x21_S100000x1_0_5)
      shapeCasts_S100000x1_S100000 : IVec S100000 32) (ix1 r) = x (ix2 r 5) := fun x => by
    pointwise
  exact h x

/-- Lookup 5: the row of its table that column 5 chooses. -/
theorem look5 (x : IVec S100000x21 32) (hx : Binary x) (t : FVec Ideal S12x128 .f32) (r : Fin 100000) (k : Fin 128) :
    val_main_v24 (F := Ideal) x t (ix2 r k) = rowAt (D := 12) (by omega) t (bitRow (x (ix2 r 5))) k := by
  have e : val_main_v24 (F := Ideal) x t
      = take gather_S12x128_S100000x1_S100000x128_1_0_n_n_0_1_1128 12#32 11#32 t (val_main_v23 (F := Ideal) x) := rfl
  have h : ∀ r : Fin 100000, (val_main_v23 (F := Ideal) x : IVec S100000 32) (ix1 r) = 0#32
      ∨ (val_main_v23 (F := Ideal) x : IVec S100000 32) (ix1 r) = 1#32 := fun r => by rw [col5]; exact hx r 5
  rw [e]
  refine (take_apply _ rfl rfl rfl rfl rfl 12#32 11#32 (by decide) (by decide) t (by omega) (by omega) _ h r k).trans ?_
  have hc := col5 x r
  unfold rowAt
  simp only [hc]

/-- Category column 6, cut out of the categories and flattened, at a row. -/
theorem col6 (x : IVec S100000x21 32) (r : Fin 100000) : val_main_v27 (F := Ideal) x (ix1 r) = x (ix2 r 6) := by
  have h : ∀ (x : IVec S100000x21 32), (shapeCast S100000 (extractStridedSlice S100000x1 ![0, 6] x slices_S100000x21_S100000x1_0_6)
      shapeCasts_S100000x1_S100000 : IVec S100000 32) (ix1 r) = x (ix2 r 6) := fun x => by
    pointwise
  exact h x

/-- Lookup 6: the row of its table that column 6 chooses. -/
theorem look6 (x : IVec S100000x21 32) (hx : Binary x) (t : FVec Ideal S12x128 .f32) (r : Fin 100000) (k : Fin 128) :
    val_main_v28 (F := Ideal) x t (ix2 r k) = rowAt (D := 12) (by omega) t (bitRow (x (ix2 r 6))) k := by
  have e : val_main_v28 (F := Ideal) x t
      = take gather_S12x128_S100000x1_S100000x128_1_0_n_n_0_1_1128 12#32 11#32 t (val_main_v27 (F := Ideal) x) := rfl
  have h : ∀ r : Fin 100000, (val_main_v27 (F := Ideal) x : IVec S100000 32) (ix1 r) = 0#32
      ∨ (val_main_v27 (F := Ideal) x : IVec S100000 32) (ix1 r) = 1#32 := fun r => by rw [col6]; exact hx r 6
  rw [e]
  refine (take_apply _ rfl rfl rfl rfl rfl 12#32 11#32 (by decide) (by decide) t (by omega) (by omega) _ h r k).trans ?_
  have hc := col6 x r
  unfold rowAt
  simp only [hc]

/-- Category column 7, cut out of the categories and flattened, at a row. -/
theorem col7 (x : IVec S100000x21 32) (r : Fin 100000) : val_main_v31 (F := Ideal) x (ix1 r) = x (ix2 r 7) := by
  have h : ∀ (x : IVec S100000x21 32), (shapeCast S100000 (extractStridedSlice S100000x1 ![0, 7] x slices_S100000x21_S100000x1_0_7)
      shapeCasts_S100000x1_S100000 : IVec S100000 32) (ix1 r) = x (ix2 r 7) := fun x => by
    pointwise
  exact h x

/-- Lookup 7: the row of its table that column 7 chooses. -/
theorem look7 (x : IVec S100000x21 32) (hx : Binary x) (t : FVec Ideal S10x128 .f32) (r : Fin 100000) (k : Fin 128) :
    val_main_v32 (F := Ideal) x t (ix2 r k) = rowAt (D := 10) (by omega) t (bitRow (x (ix2 r 7))) k := by
  have e : val_main_v32 (F := Ideal) x t
      = take gather_S10x128_S100000x1_S100000x128_1_0_n_n_0_1_1128 10#32 9#32 t (val_main_v31 (F := Ideal) x) := rfl
  have h : ∀ r : Fin 100000, (val_main_v31 (F := Ideal) x : IVec S100000 32) (ix1 r) = 0#32
      ∨ (val_main_v31 (F := Ideal) x : IVec S100000 32) (ix1 r) = 1#32 := fun r => by rw [col7]; exact hx r 7
  rw [e]
  refine (take_apply _ rfl rfl rfl rfl rfl 10#32 9#32 (by decide) (by decide) t (by omega) (by omega) _ h r k).trans ?_
  have hc := col7 x r
  unfold rowAt
  simp only [hc]

/-- Category column 8, cut out of the categories and flattened, at a row. -/
theorem col8 (x : IVec S100000x21 32) (r : Fin 100000) : val_main_v35 (F := Ideal) x (ix1 r) = x (ix2 r 8) := by
  have h : ∀ (x : IVec S100000x21 32), (shapeCast S100000 (extractStridedSlice S100000x1 ![0, 8] x slices_S100000x21_S100000x1_0_8)
      shapeCasts_S100000x1_S100000 : IVec S100000 32) (ix1 r) = x (ix2 r 8) := fun x => by
    pointwise
  exact h x

/-- Lookup 8: the row of its table that column 8 chooses. -/
theorem look8 (x : IVec S100000x21 32) (hx : Binary x) (t : FVec Ideal S6x128 .f32) (r : Fin 100000) (k : Fin 128) :
    val_main_v36 (F := Ideal) x t (ix2 r k) = rowAt (D := 6) (by omega) t (bitRow (x (ix2 r 8))) k := by
  have e : val_main_v36 (F := Ideal) x t
      = take gather_S6x128_S100000x1_S100000x128_1_0_n_n_0_1_1128 6#32 5#32 t (val_main_v35 (F := Ideal) x) := rfl
  have h : ∀ r : Fin 100000, (val_main_v35 (F := Ideal) x : IVec S100000 32) (ix1 r) = 0#32
      ∨ (val_main_v35 (F := Ideal) x : IVec S100000 32) (ix1 r) = 1#32 := fun r => by rw [col8]; exact hx r 8
  rw [e]
  refine (take_apply _ rfl rfl rfl rfl rfl 6#32 5#32 (by decide) (by decide) t (by omega) (by omega) _ h r k).trans ?_
  have hc := col8 x r
  unfold rowAt
  simp only [hc]

/-- Category column 9, cut out of the categories and flattened, at a row. -/
theorem col9 (x : IVec S100000x21 32) (r : Fin 100000) : val_main_v39 (F := Ideal) x (ix1 r) = x (ix2 r 9) := by
  have h : ∀ (x : IVec S100000x21 32), (shapeCast S100000 (extractStridedSlice S100000x1 ![0, 9] x slices_S100000x21_S100000x1_0_9)
      shapeCasts_S100000x1_S100000 : IVec S100000 32) (ix1 r) = x (ix2 r 9) := fun x => by
    pointwise
  exact h x

/-- Lookup 9: the row of its table that column 9 chooses. -/
theorem look9 (x : IVec S100000x21 32) (hx : Binary x) (t : FVec Ideal S6x128 .f32) (r : Fin 100000) (k : Fin 128) :
    val_main_v40 (F := Ideal) x t (ix2 r k) = rowAt (D := 6) (by omega) t (bitRow (x (ix2 r 9))) k := by
  have e : val_main_v40 (F := Ideal) x t
      = take gather_S6x128_S100000x1_S100000x128_1_0_n_n_0_1_1128 6#32 5#32 t (val_main_v39 (F := Ideal) x) := rfl
  have h : ∀ r : Fin 100000, (val_main_v39 (F := Ideal) x : IVec S100000 32) (ix1 r) = 0#32
      ∨ (val_main_v39 (F := Ideal) x : IVec S100000 32) (ix1 r) = 1#32 := fun r => by rw [col9]; exact hx r 9
  rw [e]
  refine (take_apply _ rfl rfl rfl rfl rfl 6#32 5#32 (by decide) (by decide) t (by omega) (by omega) _ h r k).trans ?_
  have hc := col9 x r
  unfold rowAt
  simp only [hc]

/-- Category column 10, cut out of the categories and flattened, at a row. -/
theorem col10 (x : IVec S100000x21 32) (r : Fin 100000) : val_main_v43 (F := Ideal) x (ix1 r) = x (ix2 r 10) := by
  have h : ∀ (x : IVec S100000x21 32), (shapeCast S100000 (extractStridedSlice S100000x1 ![0, 10] x slices_S100000x21_S100000x1_0_10)
      shapeCasts_S100000x1_S100000 : IVec S100000 32) (ix1 r) = x (ix2 r 10) := fun x => by
    pointwise
  exact h x

/-- Lookup 10: the row of its table that column 10 chooses. -/
theorem look10 (x : IVec S100000x21 32) (hx : Binary x) (t : FVec Ideal S2x128 .f32) (r : Fin 100000) (k : Fin 128) :
    val_main_v44 (F := Ideal) x t (ix2 r k) = rowAt (D := 2) (by omega) t (bitRow (x (ix2 r 10))) k := by
  have e : val_main_v44 (F := Ideal) x t
      = take gather_S2x128_S100000x1_S100000x128_1_0_n_n_0_1_1128 2#32 1#32 t (val_main_v43 (F := Ideal) x) := rfl
  have h : ∀ r : Fin 100000, (val_main_v43 (F := Ideal) x : IVec S100000 32) (ix1 r) = 0#32
      ∨ (val_main_v43 (F := Ideal) x : IVec S100000 32) (ix1 r) = 1#32 := fun r => by rw [col10]; exact hx r 10
  rw [e]
  refine (take_apply _ rfl rfl rfl rfl rfl 2#32 1#32 (by decide) (by decide) t (by omega) (by omega) _ h r k).trans ?_
  have hc := col10 x r
  unfold rowAt
  simp only [hc]

/-- Category column 11, cut out of the categories and flattened, at a row. -/
theorem col11 (x : IVec S100000x21 32) (r : Fin 100000) : val_main_v47 (F := Ideal) x (ix1 r) = x (ix2 r 11) := by
  have h : ∀ (x : IVec S100000x21 32), (shapeCast S100000 (extractStridedSlice S100000x1 ![0, 11] x slices_S100000x21_S100000x1_0_11)
      shapeCasts_S100000x1_S100000 : IVec S100000 32) (ix1 r) = x (ix2 r 11) := fun x => by
    pointwise
  exact h x

/-- Lookup 11: the row of its table that column 11 chooses. -/
theorem look11 (x : IVec S100000x21 32) (hx : Binary x) (t : FVec Ideal S2x128 .f32) (r : Fin 100000) (k : Fin 128) :
    val_main_v48 (F := Ideal) x t (ix2 r k) = rowAt (D := 2) (by omega) t (bitRow (x (ix2 r 11))) k := by
  have e : val_main_v48 (F := Ideal) x t
      = take gather_S2x128_S100000x1_S100000x128_1_0_n_n_0_1_1128 2#32 1#32 t (val_main_v47 (F := Ideal) x) := rfl
  have h : ∀ r : Fin 100000, (val_main_v47 (F := Ideal) x : IVec S100000 32) (ix1 r) = 0#32
      ∨ (val_main_v47 (F := Ideal) x : IVec S100000 32) (ix1 r) = 1#32 := fun r => by rw [col11]; exact hx r 11
  rw [e]
  refine (take_apply _ rfl rfl rfl rfl rfl 2#32 1#32 (by decide) (by decide) t (by omega) (by omega) _ h r k).trans ?_
  have hc := col11 x r
  unfold rowAt
  simp only [hc]

/-- Category column 12, cut out of the categories and flattened, at a row. -/
theorem col12 (x : IVec S100000x21 32) (r : Fin 100000) : val_main_v52 (F := Ideal) x (ix1 r) = x (ix2 r 12) := by
  have h : ∀ (x : IVec S100000x21 32), (shapeCast S100000 (extractStridedSlice S100000x1 ![0, 12] x slices_S100000x21_S100000x1_0_12)
      shapeCasts_S100000x1_S100000 : IVec S100000 32) (ix1 r) = x (ix2 r 12) := fun x => by
    pointwise
  exact h x

/-- Lookup 12: the row of its table that column 12 chooses. -/
theorem look12 (x : IVec S100000x21 32) (hx : Binary x) (t : FVec Ideal S119x128 .f32) (r : Fin 100000) (k : Fin 128) :
    val_main_v53 (F := Ideal) x t (ix2 r k) = rowAt (D := 119) (by omega) t (bitRow (x (ix2 r 12))) k := by
  have e : val_main_v53 (F := Ideal) x t
      = take gather_S119x128_S100000x1_S100000x128_1_0_n_n_0_1_1128 119#32 118#32 t (val_main_v52 (F := Ideal) x) := rfl
  have h : ∀ r : Fin 100000, (val_main_v52 (F := Ideal) x : IVec S100000 32) (ix1 r) = 0#32
      ∨ (val_main_v52 (F := Ideal) x : IVec S100000 32) (ix1 r) = 1#32 := fun r => by rw [col12]; exact hx r 12
  rw [e]
  refine (take_apply _ rfl rfl rfl rfl rfl 119#32 118#32 (by decide) (by decide) t (by omega) (by omega) _ h r k).trans ?_
  have hc := col12 x r
  unfold rowAt
  simp only [hc]

/-- Category column 13, cut out of the categories and flattened, at a row. -/
theorem col13 (x : IVec S100000x21 32) (r : Fin 100000) : val_main_v56 (F := Ideal) x (ix1 r) = x (ix2 r 13) := by
  have h : ∀ (x : IVec S100000x21 32), (shapeCast S100000 (extractStridedSlice S100000x1 ![0, 13] x slices_S100000x21_S100000x1_0_13)
      shapeCasts_S100000x1_S100000 : IVec S100000 32) (ix1 r) = x (ix2 r 13) := fun x => by
    pointwise
  exact h x

/-- Lookup 13: the row of its table that column 13 chooses. -/
theorem look13 (x : IVec S100000x21 32) (hx : Binary x) (t : FVec Ideal S4x128 .f32) (r : Fin 100000) (k : Fin 128) :
    val_main_v57 (F := Ideal) x t (ix2 r k) = rowAt (D := 4) (by omega) t (bitRow (x (ix2 r 13))) k := by
  have e : val_main_v57 (F := Ideal) x t
      = take gather_S4x128_S100000x1_S100000x128_1_0_n_n_0_1_1128 4#32 3#32 t (val_main_v56 (F := Ideal) x) := rfl
  have h : ∀ r : Fin 100000, (val_main_v56 (F := Ideal) x : IVec S100000 32) (ix1 r) = 0#32
      ∨ (val_main_v56 (F := Ideal) x : IVec S100000 32) (ix1 r) = 1#32 := fun r => by rw [col13]; exact hx r 13
  rw [e]
  refine (take_apply _ rfl rfl rfl rfl rfl 4#32 3#32 (by decide) (by decide) t (by omega) (by omega) _ h r k).trans ?_
  have hc := col13 x r
  unfold rowAt
  simp only [hc]

/-- Category column 14, cut out of the categories and flattened, at a row. -/
theorem col14 (x : IVec S100000x21 32) (r : Fin 100000) : val_main_v60 (F := Ideal) x (ix1 r) = x (ix2 r 14) := by
  have h : ∀ (x : IVec S100000x21 32), (shapeCast S100000 (extractStridedSlice S100000x1 ![0, 14] x slices_S100000x21_S100000x1_0_14)
      shapeCasts_S100000x1_S100000 : IVec S100000 32) (ix1 r) = x (ix2 r 14) := fun x => by
    pointwise
  exact h x

/-- Lookup 14: the row of its table that column 14 chooses. -/
theorem look14 (x : IVec S100000x21 32) (hx : Binary x) (t : FVec Ideal S12x128 .f32) (r : Fin 100000) (k : Fin 128) :
    val_main_v61 (F := Ideal) x t (ix2 r k) = rowAt (D := 12) (by omega) t (bitRow (x (ix2 r 14))) k := by
  have e : val_main_v61 (F := Ideal) x t
      = take gather_S12x128_S100000x1_S100000x128_1_0_n_n_0_1_1128 12#32 11#32 t (val_main_v60 (F := Ideal) x) := rfl
  have h : ∀ r : Fin 100000, (val_main_v60 (F := Ideal) x : IVec S100000 32) (ix1 r) = 0#32
      ∨ (val_main_v60 (F := Ideal) x : IVec S100000 32) (ix1 r) = 1#32 := fun r => by rw [col14]; exact hx r 14
  rw [e]
  refine (take_apply _ rfl rfl rfl rfl rfl 12#32 11#32 (by decide) (by decide) t (by omega) (by omega) _ h r k).trans ?_
  have hc := col14 x r
  unfold rowAt
  simp only [hc]

/-- Category column 15, cut out of the categories and flattened, at a row. -/
theorem col15 (x : IVec S100000x21 32) (r : Fin 100000) : val_main_v64 (F := Ideal) x (ix1 r) = x (ix2 r 15) := by
  have h : ∀ (x : IVec S100000x21 32), (shapeCast S100000 (extractStridedSlice S100000x1 ![0, 15] x slices_S100000x21_S100000x1_0_15)
      shapeCasts_S100000x1_S100000 : IVec S100000 32) (ix1 r) = x (ix2 r 15) := fun x => by
    pointwise
  exact h x

/-- Lookup 15: the row of its table that column 15 chooses. -/
theorem look15 (x : IVec S100000x21 32) (hx : Binary x) (t : FVec Ideal S12x128 .f32) (r : Fin 100000) (k : Fin 128) :
    val_main_v65 (F := Ideal) x t (ix2 r k) = rowAt (D := 12) (by omega) t (bitRow (x (ix2 r 15))) k := by
  have e : val_main_v65 (F := Ideal) x t
      = take gather_S12x128_S100000x1_S100000x128_1_0_n_n_0_1_1128 12#32 11#32 t (val_main_v64 (F := Ideal) x) := rfl
  have h : ∀ r : Fin 100000, (val_main_v64 (F := Ideal) x : IVec S100000 32) (ix1 r) = 0#32
      ∨ (val_main_v64 (F := Ideal) x : IVec S100000 32) (ix1 r) = 1#32 := fun r => by rw [col15]; exact hx r 15
  rw [e]
  refine (take_apply _ rfl rfl rfl rfl rfl 12#32 11#32 (by decide) (by decide) t (by omega) (by omega) _ h r k).trans ?_
  have hc := col15 x r
  unfold rowAt
  simp only [hc]

/-- Category column 16, cut out of the categories and flattened, at a row. -/
theorem col16 (x : IVec S100000x21 32) (r : Fin 100000) : val_main_v68 (F := Ideal) x (ix1 r) = x (ix2 r 16) := by
  have h : ∀ (x : IVec S100000x21 32), (shapeCast S100000 (extractStridedSlice S100000x1 ![0, 16] x slices_S100000x21_S100000x1_0_16)
      shapeCasts_S100000x1_S100000 : IVec S100000 32) (ix1 r) = x (ix2 r 16) := fun x => by
    pointwise
  exact h x

/-- Lookup 16: the row of its table that column 16 chooses. -/
theorem look16 (x : IVec S100000x21 32) (hx : Binary x) (t : FVec Ideal S10x128 .f32) (r : Fin 100000) (k : Fin 128) :
    val_main_v69 (F := Ideal) x t (ix2 r k) = rowAt (D := 10) (by omega) t (bitRow (x (ix2 r 16))) k := by
  have e : val_main_v69 (F := Ideal) x t
      = take gather_S10x128_S100000x1_S100000x128_1_0_n_n_0_1_1128 10#32 9#32 t (val_main_v68 (F := Ideal) x) := rfl
  have h : ∀ r : Fin 100000, (val_main_v68 (F := Ideal) x : IVec S100000 32) (ix1 r) = 0#32
      ∨ (val_main_v68 (F := Ideal) x : IVec S100000 32) (ix1 r) = 1#32 := fun r => by rw [col16]; exact hx r 16
  rw [e]
  refine (take_apply _ rfl rfl rfl rfl rfl 10#32 9#32 (by decide) (by decide) t (by omega) (by omega) _ h r k).trans ?_
  have hc := col16 x r
  unfold rowAt
  simp only [hc]

/-- Category column 17, cut out of the categories and flattened, at a row. -/
theorem col17 (x : IVec S100000x21 32) (r : Fin 100000) : val_main_v72 (F := Ideal) x (ix1 r) = x (ix2 r 17) := by
  have h : ∀ (x : IVec S100000x21 32), (shapeCast S100000 (extractStridedSlice S100000x1 ![0, 17] x slices_S100000x21_S100000x1_0_17)
      shapeCasts_S100000x1_S100000 : IVec S100000 32) (ix1 r) = x (ix2 r 17) := fun x => by
    pointwise
  exact h x

/-- Lookup 17: the row of its table that column 17 chooses. -/
theorem look17 (x : IVec S100000x21 32) (hx : Binary x) (t : FVec Ideal S6x128 .f32) (r : Fin 100000) (k : Fin 128) :
    val_main_v73 (F := Ideal) x t (ix2 r k) = rowAt (D := 6) (by omega) t (bitRow (x (ix2 r 17))) k := by
  have e : val_main_v73 (F := Ideal) x t
      = take gather_S6x128_S100000x1_S100000x128_1_0_n_n_0_1_1128 6#32 5#32 t (val_main_v72 (F := Ideal) x) := rfl
  have h : ∀ r : Fin 100000, (val_main_v72 (F := Ideal) x : IVec S100000 32) (ix1 r) = 0#32
      ∨ (val_main_v72 (F := Ideal) x : IVec S100000 32) (ix1 r) = 1#32 := fun r => by rw [col17]; exact hx r 17
  rw [e]
  refine (take_apply _ rfl rfl rfl rfl rfl 6#32 5#32 (by decide) (by decide) t (by omega) (by omega) _ h r k).trans ?_
  have hc := col17 x r
  unfold rowAt
  simp only [hc]

/-- Category column 18, cut out of the categories and flattened, at a row. -/
theorem col18 (x : IVec S100000x21 32) (r : Fin 100000) : val_main_v76 (F := Ideal) x (ix1 r) = x (ix2 r 18) := by
  have h : ∀ (x : IVec S100000x21 32), (shapeCast S100000 (extractStridedSlice S100000x1 ![0, 18] x slices_S100000x21_S100000x1_0_18)
      shapeCasts_S100000x1_S100000 : IVec S100000 32) (ix1 r) = x (ix2 r 18) := fun x => by
    pointwise
  exact h x

/-- Lookup 18: the row of its table that column 18 chooses. -/
theorem look18 (x : IVec S100000x21 32) (hx : Binary x) (t : FVec Ideal S6x128 .f32) (r : Fin 100000) (k : Fin 128) :
    val_main_v77 (F := Ideal) x t (ix2 r k) = rowAt (D := 6) (by omega) t (bitRow (x (ix2 r 18))) k := by
  have e : val_main_v77 (F := Ideal) x t
      = take gather_S6x128_S100000x1_S100000x128_1_0_n_n_0_1_1128 6#32 5#32 t (val_main_v76 (F := Ideal) x) := rfl
  have h : ∀ r : Fin 100000, (val_main_v76 (F := Ideal) x : IVec S100000 32) (ix1 r) = 0#32
      ∨ (val_main_v76 (F := Ideal) x : IVec S100000 32) (ix1 r) = 1#32 := fun r => by rw [col18]; exact hx r 18
  rw [e]
  refine (take_apply _ rfl rfl rfl rfl rfl 6#32 5#32 (by decide) (by decide) t (by omega) (by omega) _ h r k).trans ?_
  have hc := col18 x r
  unfold rowAt
  simp only [hc]

/-- Category column 19, cut out of the categories and flattened, at a row. -/
theorem col19 (x : IVec S100000x21 32) (r : Fin 100000) : val_main_v80 (F := Ideal) x (ix1 r) = x (ix2 r 19) := by
  have h : ∀ (x : IVec S100000x21 32), (shapeCast S100000 (extractStridedSlice S100000x1 ![0, 19] x slices_S100000x21_S100000x1_0_19)
      shapeCasts_S100000x1_S100000 : IVec S100000 32) (ix1 r) = x (ix2 r 19) := fun x => by
    pointwise
  exact h x

/-- Lookup 19: the row of its table that column 19 chooses. -/
theorem look19 (x : IVec S100000x21 32) (hx : Binary x) (t : FVec Ideal S2x128 .f32) (r : Fin 100000) (k : Fin 128) :
    val_main_v81 (F := Ideal) x t (ix2 r k) = rowAt (D := 2) (by omega) t (bitRow (x (ix2 r 19))) k := by
  have e : val_main_v81 (F := Ideal) x t
      = take gather_S2x128_S100000x1_S100000x128_1_0_n_n_0_1_1128 2#32 1#32 t (val_main_v80 (F := Ideal) x) := rfl
  have h : ∀ r : Fin 100000, (val_main_v80 (F := Ideal) x : IVec S100000 32) (ix1 r) = 0#32
      ∨ (val_main_v80 (F := Ideal) x : IVec S100000 32) (ix1 r) = 1#32 := fun r => by rw [col19]; exact hx r 19
  rw [e]
  refine (take_apply _ rfl rfl rfl rfl rfl 2#32 1#32 (by decide) (by decide) t (by omega) (by omega) _ h r k).trans ?_
  have hc := col19 x r
  unfold rowAt
  simp only [hc]

/-- Category column 20, cut out of the categories and flattened, at a row. -/
theorem col20 (x : IVec S100000x21 32) (r : Fin 100000) : val_main_v84 (F := Ideal) x (ix1 r) = x (ix2 r 20) := by
  have h : ∀ (x : IVec S100000x21 32), (shapeCast S100000 (extractStridedSlice S100000x1 ![0, 20] x slices_S100000x21_S100000x1_0_20)
      shapeCasts_S100000x1_S100000 : IVec S100000 32) (ix1 r) = x (ix2 r 20) := fun x => by
    pointwise
  exact h x

/-- Lookup 20: the row of its table that column 20 chooses. -/
theorem look20 (x : IVec S100000x21 32) (hx : Binary x) (t : FVec Ideal S2x128 .f32) (r : Fin 100000) (k : Fin 128) :
    val_main_v85 (F := Ideal) x t (ix2 r k) = rowAt (D := 2) (by omega) t (bitRow (x (ix2 r 20))) k := by
  have e : val_main_v85 (F := Ideal) x t
      = take gather_S2x128_S100000x1_S100000x128_1_0_n_n_0_1_1128 2#32 1#32 t (val_main_v84 (F := Ideal) x) := rfl
  have h : ∀ r : Fin 100000, (val_main_v84 (F := Ideal) x : IVec S100000 32) (ix1 r) = 0#32
      ∨ (val_main_v84 (F := Ideal) x : IVec S100000 32) (ix1 r) = 1#32 := fun r => by rw [col20]; exact hx r 20
  rw [e]
  refine (take_apply _ rfl rfl rfl rfl rfl 2#32 1#32 (by decide) (by decide) t (by omega) (by omega) _ h r k).trans ?_
  have hc := col20 x r
  unfold rowAt
  simp only [hc]

end Cert.RefFeat

end
-- ==== Proof.RefFeature.lean ====
module

public import proofs.«01_k».proof.Proof.RefFeat

@[expose] public section

set_option maxRecDepth 16384

noncomputable section

/-! The reference's feature vector, as sums over the tables. -/

namespace Cert.RefFeature

open Idealize.ShloMosaic Cert.ReferenceIdeal Cert.ReferenceIdeal.Gen Cert.ReferenceIdeal.Read Cert.RefTake Cert.RefFeat

/-- Rows 0 and 1 of the three bond tables. -/
def bonds (b0 : FVec Ideal S5x128 .f32) (b1 : FVec Ideal S6x128 .f32) (b2 : FVec Ideal S3x128 .f32) : Fin 3 → Fin 2 → Fin 128 → EReal :=
  ![rowAt (D := 5) (by omega) b0, rowAt (D := 6) (by omega) b1, rowAt (D := 3) (by omega) b2]

/-- Rows 0 and 1 of the nine atom tables. -/
def atoms (a0 : FVec Ideal S119x128 .f32) (a1 : FVec Ideal S4x128 .f32) (a2 a3 : FVec Ideal S12x128 .f32) (a4 : FVec Ideal S10x128 .f32)
    (a5 a6 : FVec Ideal S6x128 .f32) (a7 a8 : FVec Ideal S2x128 .f32) : Fin 9 → Fin 2 → Fin 128 → EReal :=
  ![rowAt (D := 119) (by omega) a0, rowAt (D := 4) (by omega) a1, rowAt (D := 12) (by omega) a2, rowAt (D := 12) (by omega) a3,
    rowAt (D := 10) (by omega) a4, rowAt (D := 6) (by omega) a5, rowAt (D := 6) (by omega) a6, rowAt (D := 2) (by omega) a7,
    rowAt (D := 2) (by omega) a8]

/-- Nine terms added one by one are their sum. -/
theorem sum_nine (f : Fin 9 → EReal) : 0 + f 0 + f 1 + f 2 + f 3 + f 4 + f 5 + f 6 + f 7 + f 8 = ∑ i, f i := by
  simp only [Fin.sum_univ_castSucc, Finset.univ_eq_empty, Finset.sum_empty]
  rfl

/-- Three terms added one by one are their sum. -/
theorem sum_three (f : Fin 3 → EReal) : 0 + f 0 + f 1 + f 2 = ∑ i, f i := by
  rw [Fin.sum_univ_three, zero_add]

/-- The float word of zero is zero. -/
theorem zero_word : (FloatOps.ofBits .f32 0x00000000#32 : Ideal .f32) = 0 := Ideal.ofBits_zero_f32

section
variable (x : IVec S100000x21 32) (hx : Binary x) (b0 : FVec Ideal S5x128 .f32) (b1 : FVec Ideal S6x128 .f32) (b2 : FVec Ideal S3x128 .f32)
  (a0 : FVec Ideal S119x128 .f32) (a1 : FVec Ideal S4x128 .f32) (a2 a3 : FVec Ideal S12x128 .f32) (a4 : FVec Ideal S10x128 .f32)
  (a5 a6 : FVec Ideal S6x128 .f32) (a7 a8 : FVec Ideal S2x128 .f32) (r : Fin 100000) (k : Fin 128)

include hx in
/-- The sum of the three bond rows. -/
theorem bond_sum : val_main_v12 (F := Ideal) x b0 b1 b2 (ix2 r k)
    = ∑ i : Fin 3, bonds b0 b1 b2 i (bitRow (x (ix2 r ⟨i.val, by omega⟩))) k := by
  rw [← sum_three]
  rw [val_main_v12_apply, val_main_v8_apply, val_main_v4_apply, val_main_v0_apply, val_main_cst_apply, zero_word,
    look0 x hx, look1 x hx, look2 x hx]
  rfl

include hx in
/-- The sum of the first nine atom rows. -/
theorem left_sum : val_main_v49 (F := Ideal) x a0 a1 a2 a3 a4 a5 a6 a7 a8 (ix2 r k)
    = ∑ i : Fin 9, atoms a0 a1 a2 a3 a4 a5 a6 a7 a8 i (bitRow (x (ix2 r ⟨3 + i.val, by omega⟩))) k := by
  rw [← sum_nine]
  rw [val_main_v49_apply, val_main_v45_apply, val_main_v41_apply, val_main_v37_apply, val_main_v33_apply, val_main_v29_apply,
    val_main_v25_apply, val_main_v21_apply, val_main_v17_apply, val_main_v13_apply, val_main_cst_0_apply, zero_word,
    look3 x hx, look4 x hx, look5 x hx, look6 x hx, look7 x hx, look8 x hx, look9 x hx, look10 x hx, look11 x hx]
  rfl

include hx in
/-- The sum of the last nine atom rows. -/
theorem right_sum : val_main_v86 (F := Ideal) x a0 a1 a2 a3 a4 a5 a6 a7 a8 (ix2 r k)
    = ∑ i : Fin 9, atoms a0 a1 a2 a3 a4 a5 a6 a7 a8 i (bitRow (x (ix2 r ⟨12 + i.val, by omega⟩))) k := by
  rw [← sum_nine]
  rw [val_main_v86_apply, val_main_v82_apply, val_main_v78_apply, val_main_v74_apply, val_main_v70_apply, val_main_v66_apply,
    val_main_v62_apply, val_main_v58_apply, val_main_v54_apply, val_main_v50_apply, val_main_cst_1_apply, zero_word,
    look12 x hx, look13 x hx, look14 x hx, look15 x hx, look16 x hx, look17 x hx, look18 x hx, look19 x hx, look20 x hx]
  rfl

include hx in
/-- The feature vector. -/
theorem feature_apply : val_main_v88 (F := Ideal) x b0 b1 b2 a0 a1 a2 a3 a4 a5 a6 a7 a8 (ix2 r k)
    = (∑ i : Fin 3, bonds b0 b1 b2 i (bitRow (x (ix2 r ⟨i.val, by omega⟩))) k)
        - (∑ i : Fin 9, atoms a0 a1 a2 a3 a4 a5 a6 a7 a8 i (bitRow (x (ix2 r ⟨3 + i.val, by omega⟩))) k)
      + ∑ i : Fin 9, atoms a0 a1 a2 a3 a4 a5 a6 a7 a8 i (bitRow (x (ix2 r ⟨12 + i.val, by omega⟩))) k := by
  rw [val_main_v88_apply, val_main_v87_apply, bond_sum x hx, left_sum x hx, right_sum x hx]
  rfl

end

end Cert.RefFeature

end
-- ==== Proof.Given.lean ====
module

public import Idealize.ShloMosaic.Lib.Pointwise
public import Idealize.ShloMosaic.Lib.ReduceAll
public import Idealize.ShloMosaic.Lib.WordCmp
public import proofs.«01_k».proof.Pre_binary_categories
public import proofs.«01_k».proof.Proof.RefFeature

@[expose] public section

set_option maxRecDepth 16384

noncomputable section

/-! What the precondition says: the categories are 0 or 1, and rows 0 and 1 of the tables and the weights are finite. -/

namespace Cert.Given

open Idealize.ShloMosaic Cert.Pre_binary_categories

/-- The shape facts that the precondition's function states. -/
instance facts : Cert.Pre_binary_categories.Facts where
  bcast_S_S100000x21 := by decide
  reducesTo_S100000x21_S_d0_1 := by decide
  h_S_ := by decide
  slices_S5x128_S2x128_0_0 := by decide
  bcast_S_S2x128 := by decide
  reducesTo_S2x128_S_d0_1 := by decide
  slices_S6x128_S2x128_0_0 := by decide
  slices_S3x128_S2x128_0_0 := by decide
  slices_S119x128_S2x128_0_0 := by decide
  slices_S4x128_S2x128_0_0 := by decide
  slices_S12x128_S2x128_0_0 := by decide
  slices_S10x128_S2x128_0_0 := by decide
  bcast_S_S128x112 := by decide
  reducesTo_S128x112_S_d0_1 := by decide

/-- Whether every entry of two rows is finite. -/
def finRows (v : FVec Ideal S2x128 .f32) : IVec S_ 1 :=
  Host.reduce IntOp.andi (cmpf .olt (Host.absf v) (broadcastInDim S2x128 ![] facts.bcast_S_S2x128 (constant S_ .f32 0x7F800000#32)))
    (constantI S_ 1 1#1) facts.reducesTo_S2x128_S_d0_1 facts.h_S_

/-- Whether every entry of the weights is finite. -/
def finWeights (v : FVec Ideal S128x112 .f32) : IVec S_ 1 :=
  Host.reduce IntOp.andi (cmpf .olt (Host.absf v) (broadcastInDim S128x112 ![] facts.bcast_S_S128x112 (constant S_ .f32 0x7F800000#32)))
    (constantI S_ 1 1#1) facts.reducesTo_S128x112_S_d0_1 facts.h_S_

/-- Whether every category is 0 or 1. -/
def binary (x : IVec S100000x21 32) : IVec S_ 1 :=
  Host.reduce IntOp.andi (ori (cmpi .eq x (broadcastInDim S100000x21 ![] facts.bcast_S_S100000x21 (constantI S_ 32 0#32)))
      (cmpi .eq x (broadcastInDim S100000x21 ![] facts.bcast_S_S100000x21 (constantI S_ 32 1#32))))
    (constantI S_ 1 1#1) facts.reducesTo_S100000x21_S_d0_1 facts.h_S_

/-- Below infinity in absolute value is finite. -/
theorem finite_of_lt (t : Ideal .f32) (h : FloatOps.cmpf .olt (FloatOps.hostAbsf t) (FloatOps.ofBits .f32 0x7F800000#32 : Ideal .f32) = 1#1) :
    (t : EReal) ≠ ⊤ ∧ (t : EReal) ≠ ⊥ := by
  have hi : (FloatOps.ofBits .f32 0x7F800000#32 : Ideal .f32) = (⊤ : EReal) := by
    show Ideal.ofBits .f32 0x7F800000#32 = ⊤
    simp [Ideal.ofBits, Ideal.ieee]
  rw [hi] at h
  have h' : Ideal.cmp .olt (max (t : EReal) (-(t : EReal))) ⊤ = 1#1 := h
  refine ⟨fun e => ?_, fun e => ?_⟩ <;> rw [e] at h' <;> simp [Ideal.cmp] at h'

/-- The decoded test on two rows: each entry is finite. -/
theorem finRows_apply (v : FVec Ideal S2x128 .f32) (h : finRows v = fun _ => 1#1) (b : Fin 2) (k : Fin 128) :
    v (ix2 b k) ≠ ⊤ ∧ v (ix2 b k) ≠ ⊥ := by
  haveI : Subsingleton S_.Idx := ⟨fun a b => funext fun i => i.elim0⟩
  have e := Host.reduce_andi_all _ _ _ _ (fun a => a.elim0) (congrFun h (fun a => a.elim0)) (ix2 b k)
  exact finite_of_lt _ e

/-- The decoded test on the weights: each entry is finite. -/
theorem finWeights_apply (v : FVec Ideal S128x112 .f32) (h : finWeights v = fun _ => 1#1) (k : Fin 128) (j : Fin 112) :
    v (ix2 k j) ≠ ⊤ ∧ v (ix2 k j) ≠ ⊥ := by
  haveI : Subsingleton S_.Idx := ⟨fun a b => funext fun i => i.elim0⟩
  have e := Host.reduce_andi_all _ _ _ _ (fun a => a.elim0) (congrFun h (fun a => a.elim0)) (ix2 k j)
  exact finite_of_lt _ e

/-- The decoded test on the categories: each is 0 or 1. -/
theorem binary_apply (x : IVec S100000x21 32) (h : binary x = fun _ => 1#1) (r : Fin 100000) (i : Fin 21) :
    x (ix2 r i) = 0#32 ∨ x (ix2 r i) = 1#32 := by
  haveI : Subsingleton S_.Idx := ⟨fun a b => funext fun i => i.elim0⟩
  have e := Host.reduce_andi_all _ _ _ _ (fun a => a.elim0) (congrFun h (fun a => a.elim0)) (ix2 r i)
  have e' : IntOp.ori (IntOp.cmpi .eq (x (ix2 r i)) 0#32) (IntOp.cmpi .eq (x (ix2 r i)) 1#32) = 1#1 := e
  rw [WordCmp.cmpi_eq_eq, WordCmp.cmpi_eq_eq, WordCmp.ori_ofBool] at e'
  by_cases h0 : x (ix2 r i) = 0#32
  · exact .inl h0
  · by_cases h1 : x (ix2 r i) = 1#32
    · exact .inr h1
    · simp [h0, h1] at e'

/-- The two arms of a scalar conjunction that holds. -/
theorem both (u v : IVec S_ 1) (h : andi u v = fun _ => 1#1) : u = (fun _ => 1#1) ∧ v = fun _ => 1#1 := by
  refine ⟨funext fun i => ?_, funext fun i => ?_⟩ <;>
    (have e : u i &&& v i = 1#1 := congrFun h i
     revert e; generalize u i = a; generalize v i = b; revert a b; decide)

/-- The first two rows of a longer table, read at an index. -/
theorem slice_apply {D : ℕ} (hD : 2 ≤ D) (t : FVec Ideal (⟨2, ![D, 128]⟩ : Shape) .f32) (hs) (b : Fin 2) (k : Fin 128) :
    extractStridedSlice S2x128 ![0, 0] t hs (ix2 b k) = RefFeat.rowAt hD t b k := by
  refine congrArg t (funext fun a => ?_)
  fin_cases a <;> apply Fin.ext <;> simp [ix2]

/-- The decoded test on the first two rows of a longer table. -/
theorem head_apply {D : ℕ} (hD : 2 ≤ D) (t : FVec Ideal (⟨2, ![D, 128]⟩ : Shape) .f32) (hs)
    (h : finRows (extractStridedSlice S2x128 ![0, 0] t hs) = fun _ => 1#1) (b : Fin 2) (k : Fin 128) :
    RefFeat.rowAt hD t b k ≠ ⊤ ∧ RefFeat.rowAt hD t b k ≠ ⊥ := by
  have e := finRows_apply _ h b k
  rwa [slice_apply hD] at e

/-- The decoded precondition: the categories are 0 or 1, and the table rows that they select and the weights are finite. -/
theorem given (x : IVec S100000x21 32) (val : FVec Ideal S100000x16x1 .f32) (ev : FVec Ideal S100000x16 .f32)
    (b0 : FVec Ideal S5x128 .f32) (b1 : FVec Ideal S6x128 .f32) (b2 : FVec Ideal S3x128 .f32)
    (a0 : FVec Ideal S119x128 .f32) (a1 : FVec Ideal S4x128 .f32) (a2 a3 : FVec Ideal S12x128 .f32) (a4 : FVec Ideal S10x128 .f32)
    (a5 a6 : FVec Ideal S6x128 .f32) (a7 a8 : FVec Ideal S2x128 .f32) (wa : FVec Ideal S2x32 .f32) (ba : FVec Ideal S32 .f32)
    (w1 : FVec Ideal S32x32 .f32) (c1 : FVec Ideal S32 .f32) (w2 : FVec Ideal S32x32 .f32) (c2 : FVec Ideal S32 .f32)
    (w3 : FVec Ideal S32x16 .f32) (c3 : FVec Ideal S16 .f32) (wx : FVec Ideal S128x112 .f32) (bx : FVec Ideal S112 .f32)
    (h : Cert.Pre_binary_categories.fn (F := Ideal) x val ev b0 b1 b2 a0 a1 a2 a3 a4 a5 a6 a7 a8 wa ba w1 c1 w2 c2 w3 c3 wx bx
      = fun _ => 1#1) :
    RefFeat.Binary x
      ∧ (∀ i b k, RefFeature.bonds b0 b1 b2 i b k ≠ ⊤ ∧ RefFeature.bonds b0 b1 b2 i b k ≠ ⊥)
      ∧ (∀ i b k, RefFeature.atoms a0 a1 a2 a3 a4 a5 a6 a7 a8 i b k ≠ ⊤ ∧ RefFeature.atoms a0 a1 a2 a3 a4 a5 a6 a7 a8 i b k ≠ ⊥)
      ∧ ∀ k j, wx (ix2 k j) ≠ ⊤ ∧ wx (ix2 k j) ≠ ⊥ := by
  have e : andi (andi (andi (andi (andi (andi (andi (andi (andi (andi (andi (andi (andi (binary x)
      (finRows (extractStridedSlice S2x128 ![0, 0] b0 facts.slices_S5x128_S2x128_0_0)))
      (finRows (extractStridedSlice S2x128 ![0, 0] b1 facts.slices_S6x128_S2x128_0_0)))
      (finRows (extractStridedSlice S2x128 ![0, 0] b2 facts.slices_S3x128_S2x128_0_0)))
      (finRows (extractStridedSlice S2x128 ![0, 0] a0 facts.slices_S119x128_S2x128_0_0)))
      (finRows (extractStridedSlice S2x128 ![0, 0] a1 facts.slices_S4x128_S2x128_0_0)))
      (finRows (extractStridedSlice S2x128 ![0, 0] a2 facts.slices_S12x128_S2x128_0_0)))
      (finRows (extractStridedSlice S2x128 ![0, 0] a3 facts.slices_S12x128_S2x128_0_0)))
      (finRows (extractStridedSlice S2x128 ![0, 0] a4 facts.slices_S10x128_S2x128_0_0)))
      (finRows (extractStridedSlice S2x128 ![0, 0] a5 facts.slices_S6x128_S2x128_0_0)))
      (finRows (extractStridedSlice S2x128 ![0, 0] a6 facts.slices_S6x128_S2x128_0_0)))
      (finRows a7)) (finRows a8)) (finWeights wx) = fun _ => 1#1 := h
  obtain ⟨e, hw⟩ := both _ _ e
  obtain ⟨e, h8⟩ := both _ _ e
  obtain ⟨e, h7⟩ := both _ _ e
  obtain ⟨e, h6⟩ := both _ _ e
  obtain ⟨e, h5⟩ := both _ _ e
  obtain ⟨e, h4⟩ := both _ _ e
  obtain ⟨e, h3⟩ := both _ _ e
  obtain ⟨e, h2⟩ := both _ _ e
  obtain ⟨e, h1⟩ := both _ _ e
  obtain ⟨e, h0⟩ := both _ _ e
  obtain ⟨e, g2⟩ := both _ _ e
  obtain ⟨e, g1⟩ := both _ _ e
  obtain ⟨e, g0⟩ := both _ _ e
  refine ⟨fun r i => binary_apply x e r i, fun i => ?_, fun i => ?_, finWeights_apply wx hw⟩
  · fin_cases i
    · exact head_apply (D := 5) (by omega) b0 _ g0
    · exact head_apply (D := 6) (by omega) b1 _ g1
    · exact head_apply (D := 3) (by omega) b2 _ g2
  · fin_cases i
    · exact head_apply (D := 119) (by omega) a0 _ h0
    · exact head_apply (D := 4) (by omega) a1 _ h1
    · exact head_apply (D := 12) (by omega) a2 _ h2
    · exact head_apply (D := 12) (by omega) a3 _ h3
    · exact head_apply (D := 10) (by omega) a4 _ h4
    · exact head_apply (D := 6) (by omega) a5 _ h5
    · exact head_apply (D := 6) (by omega) a6 _ h6
    · exact finRows_apply a7 h7
    · exact finRows_apply a8 h8

end Cert.Given

end
-- ==== Proof.Algebra.lean ====
module

public import Idealize.ShloMosaic.Lib.Pointwise

@[expose] public section

noncomputable section

/-! The equation behind the embedding: choosing rows of tables is linear in the choosing numbers, so the weights may be applied to
    the tables' differences. -/

namespace Cert.Algebra

/-- A function on two points is affine in the point. -/
theorem affine (f : Fin 2 → ℝ) (b : Fin 2) : f b = f 0 + (b.val : ℝ) * (f 1 - f 0) := by
  match b with
  | ⟨0, _⟩ => show f 0 = f 0 + ((0 : ℕ) : ℝ) * (f 1 - f 0); simp
  | ⟨1, _⟩ => show f 1 = f 0 + ((1 : ℕ) : ℝ) * (f 1 - f 0); simp

/-- A sum over 21 positions: the first three, the next nine, the last nine. -/
theorem sum_three_nine_nine (f : Fin 21 → ℝ) :
    ∑ i, f i = (∑ i : Fin 3, f ⟨i.val, by omega⟩) + (∑ i : Fin 9, f ⟨3 + i.val, by omega⟩) + ∑ i : Fin 9, f ⟨12 + i.val, by omega⟩ := by
  have h1 := Fin.sum_univ_add (a := 12) (b := 9) f
  have h2 := Fin.sum_univ_add (a := 3) (b := 9) (fun i : Fin 12 => f (Fin.castAdd 9 i))
  exact h1.trans (congrArg (· + ∑ i : Fin 9, f ⟨12 + i.val, by omega⟩) h2)

/-- The difference row that multiplies number `i`: a bond table's, minus an atom table's, or an atom table's. -/
def diffRow (B : Fin 3 → Fin 2 → Fin 128 → ℝ) (A : Fin 9 → Fin 2 → Fin 128 → ℝ) (i : Fin 21) (k : Fin 128) : ℝ :=
  if h : i.val < 3 then B ⟨i.val, h⟩ 1 k - B ⟨i.val, h⟩ 0 k
  else if h' : i.val < 12 then -(A ⟨i.val - 3, by omega⟩ 1 k - A ⟨i.val - 3, by omega⟩ 0 k)
  else A ⟨i.val - 12, by omega⟩ 1 k - A ⟨i.val - 12, by omega⟩ 0 k

/-- The reference's feature: the chosen bond rows, minus the first nine chosen atom rows, plus the last nine. -/
def feature (B : Fin 3 → Fin 2 → Fin 128 → ℝ) (A : Fin 9 → Fin 2 → Fin 128 → ℝ) (x : Fin 21 → Fin 2) (k : Fin 128) : ℝ :=
  (∑ i : Fin 3, B i (x ⟨i.val, by omega⟩) k) - (∑ i : Fin 9, A i (x ⟨3 + i.val, by omega⟩) k)
    + ∑ i : Fin 9, A i (x ⟨12 + i.val, by omega⟩) k

/-- The feature, through the difference rows. -/
theorem feature_eq (B : Fin 3 → Fin 2 → Fin 128 → ℝ) (A : Fin 9 → Fin 2 → Fin 128 → ℝ) (x : Fin 21 → Fin 2) (k : Fin 128) :
    (∑ i : Fin 21, ((x i).val : ℝ) * diffRow B A i k) + (B 0 0 k + B 1 0 k + B 2 0 k) = feature B A x k := by
  have e1 : ∀ i : Fin 3, diffRow B A ⟨i.val, by omega⟩ k = B i 1 k - B i 0 k := fun i => by
    unfold diffRow; rw [dif_pos i.isLt]
  have e2 : ∀ i : Fin 9, diffRow B A ⟨3 + i.val, by omega⟩ k = -(A i 1 k - A i 0 k) := fun i => by
    unfold diffRow
    rw [dif_neg (show ¬ 3 + i.val < 3 by omega), dif_pos (show 3 + i.val < 12 by omega)]
    simp only [Nat.add_sub_cancel_left, Fin.eta]
  have e3 : ∀ i : Fin 9, diffRow B A ⟨12 + i.val, by omega⟩ k = A i 1 k - A i 0 k := fun i => by
    unfold diffRow
    rw [dif_neg (show ¬ 12 + i.val < 3 by omega), dif_neg (show ¬ 12 + i.val < 12 by omega)]
    simp only [Nat.add_sub_cancel_left, Fin.eta]
  have f1 : ∀ i : Fin 3, B i (x ⟨i.val, by omega⟩) k = B i 0 k + ((x ⟨i.val, by omega⟩).val : ℝ) * (B i 1 k - B i 0 k) :=
    fun i => affine (fun b => B i b k) _
  have f2 : ∀ i : Fin 9, A i (x ⟨3 + i.val, by omega⟩) k = A i 0 k + ((x ⟨3 + i.val, by omega⟩).val : ℝ) * (A i 1 k - A i 0 k) :=
    fun i => affine (fun b => A i b k) _
  have f3 : ∀ i : Fin 9, A i (x ⟨12 + i.val, by omega⟩) k = A i 0 k + ((x ⟨12 + i.val, by omega⟩).val : ℝ) * (A i 1 k - A i 0 k) :=
    fun i => affine (fun b => A i b k) _
  have g : ∑ i : Fin 3, B i 0 k = B 0 0 k + B 1 0 k + B 2 0 k := Fin.sum_univ_three _
  rw [sum_three_nine_nine]
  unfold feature
  simp only [e1, e2, e3, f1, f2, f3, Finset.sum_add_distrib, mul_neg, Finset.sum_neg_distrib]
  rw [← g]
  ring

/-- The weights may be applied to the difference rows first. -/
theorem weighted_eq (B : Fin 3 → Fin 2 → Fin 128 → ℝ) (A : Fin 9 → Fin 2 → Fin 128 → ℝ) (x : Fin 21 → Fin 2) (w : Fin 128 → ℝ) :
    (∑ i : Fin 21, ((x i).val : ℝ) * ∑ k, diffRow B A i k * w k) + ∑ k, (B 0 0 k + B 1 0 k + B 2 0 k) * w k
      = ∑ k, feature B A x k * w k := by
  simp only [Finset.mul_sum]
  rw [Finset.sum_comm, ← Finset.sum_add_distrib]
  refine Finset.sum_congr rfl fun k _ => ?_
  rw [← feature_eq]
  refine ((add_mul _ _ _).trans (congrArg (· + _) ?_)).symm
  rw [Finset.sum_mul]
  simp only [mul_assoc]

/-- A finite sum of reals, as extended reals. -/
theorem coe_sum {n : ℕ} (f : Fin n → ℝ) : ((∑ i, f i : ℝ) : EReal) = ∑ i, (f i : EReal) :=
  map_sum (⟨⟨Real.toEReal, rfl⟩, fun _ _ => rfl⟩ : ℝ →+ EReal) f Finset.univ

end Cert.Algebra

end
-- ==== Proof.Spec.lean ====
module

public import Idealize.ShloMosaic.Lib.Pointwise

@[expose] public section

noncomputable section

namespace Cert.Spec

open Idealize.ShloMosaic

/-- One dense layer followed by the rectifier, on a row `x`: entry `j` is `max (∑ k, x k * W k j + b j) 0`. -/
def layer {m n : ℕ} (W : Fin m → Fin n → EReal) (b : Fin n → EReal) (x : Fin m → EReal) (j : Fin n) : EReal :=
  max ((∑ k : Fin m, x k * W k j) + b j) 0

/-- A dense layer depends only on its weights, bias and input. -/
theorem layer_congr {m n : ℕ} {W W' : Fin m → Fin n → EReal} {b b' : Fin n → EReal} {x x' : Fin m → EReal} {j : Fin n}
    (hW : ∀ k, W k j = W' k j) (hb : b j = b' j) (hx : ∀ k, x k = x' k) : layer W b x j = layer W' b' x' j := by
  unfold layer
  rw [hb]
  exact congrArg (fun s => max (s + b' j) 0) (Finset.sum_congr rfl fun k _ => by rw [hW, hx])

end Cert.Spec

end
-- ==== Proof.Block.lean ====
module

public import proofs.«01_k».proof.Proof.Spec
public import proofs.«01_k».proof.Proof.Gen.KernelIdeal.Frame

@[expose] public section

set_option maxRecDepth 16384

noncomputable section

namespace Cert.Block

open Idealize.ShloMosaic Cert.Spec Cert.KernelIdeal Cert.KernelIdeal.Gen

/-- Row `r` of the two [4000, 16] blocks set side by side. -/
def catRow (v w : Vec Ideal S4000x16 .f32) (r : Fin 4000) (q : Fin 32) : EReal :=
  if h : q.val < 16 then v (ix2 r ⟨q.val, h⟩) else w (ix2 r ⟨q.val - 16, by omega⟩)

/-- The eigenvectors and the eigenvalues of a block, side by side, at an index. -/
theorem pay3_apply (v w : Vec Ideal S4000x16 .f32) (r : Fin 4000) (q : Fin 32) :
    k0_pay3 v w (ix2 r q) = catRow v w r q := by
  pointwise [k0_pay3, catRow]

/-- The first two layers of group 0. -/
theorem pay4_apply (v w : Vec Ideal S4000x16 .f32) (g : Vec Ideal S1x32x128 .f32) (ba : Vec Ideal S1x128 .f32)
    (w1 : Vec Ideal S128x128 .f32) (b1 : Vec Ideal S1x128 .f32) (r : Fin 4000) (c : Fin 128) :
    k0_pay4 v w g ba w1 b1 (ix2 r c)
      = layer (fun d c => w1 (ix2 d c)) (fun c => b1 (ix2 0 c))
          (layer (fun q d => g (ix3 0 q d)) (fun d => ba (ix2 0 d)) (catRow v w r)) c := by
  pointwise [k0_pay4, layer, pay3_apply]

/-- The first two layers of group 1. -/
theorem pay7_apply (e : FVec Ideal S4000x32 .f32) (g : Vec Ideal S1x32x128 .f32) (ba : Vec Ideal S1x128 .f32)
    (w1 : Vec Ideal S128x128 .f32) (b1 : Vec Ideal S1x128 .f32) (r : Fin 4000) (c : Fin 128) :
    k0_pay7 e g ba w1 b1 (ix2 r c)
      = layer (fun d c => w1 (ix2 d c)) (fun c => b1 (ix2 0 c))
          (layer (fun q d => g (ix3 0 q d)) (fun d => ba (ix2 0 d)) (fun q => e (ix2 r q))) c := by
  pointwise [k0_pay7, layer]

/-- The first two layers of group 2. -/
theorem pay9_apply (e : FVec Ideal S4000x32 .f32) (g : Vec Ideal S1x32x128 .f32) (ba : Vec Ideal S1x128 .f32)
    (w1 : Vec Ideal S128x128 .f32) (b1 : Vec Ideal S1x128 .f32) (r : Fin 4000) (c : Fin 128) :
    k0_pay9 e g ba w1 b1 (ix2 r c)
      = layer (fun d c => w1 (ix2 d c)) (fun c => b1 (ix2 0 c))
          (layer (fun q d => g (ix3 0 q d)) (fun d => ba (ix2 0 d)) (fun q => e (ix2 r q))) c := by
  pointwise [k0_pay9, layer]

/-- The last two layers of group 0. -/
theorem pay6_apply (y : FVec Ideal S4000x128 .f32) (w2 : Vec Ideal S128x128 .f32) (b2 : Vec Ideal S1x128 .f32)
    (w3 : Vec Ideal S128x64 .f32) (b3 : Vec Ideal S1x64 .f32) (r : Fin 4000) (c : Fin 64) :
    k0_pay6 y (k0_pay5 w2) b2 w3 b3 (ix2 r c)
      = layer (fun d c => w3 (ix2 d c)) (fun c => b3 (ix2 0 c))
          (layer (fun d c => w2 (ix2 d c)) (fun c => b2 (ix2 0 c)) (fun d => y (ix2 r d))) c := by
  pointwise [k0_pay6, k0_pay5, layer]

/-- The last two layers of group 1, added to what group 0 gave. -/
theorem pay8_apply (s : FVec Ideal S4000x64 .f32) (y : FVec Ideal S4000x128 .f32) (w2 : Vec Ideal S128x128 .f32)
    (b2 : Vec Ideal S1x128 .f32) (w3 : Vec Ideal S128x64 .f32) (b3 : Vec Ideal S1x64 .f32) (r : Fin 4000) (c : Fin 64) :
    k0_pay8 s y w2 b2 w3 b3 (ix2 r c)
      = s (ix2 r c) + layer (fun d c => w3 (ix2 d c)) (fun c => b3 (ix2 0 c))
          (layer (fun d c => w2 (ix2 d c)) (fun c => b2 (ix2 0 c)) (fun d => y (ix2 r d))) c := by
  pointwise [k0_pay8, layer]

/-- The last two layers of group 2, added to what the groups before it gave. -/
theorem pay10_apply (s : FVec Ideal S4000x64 .f32) (y : FVec Ideal S4000x128 .f32) (w2 : Vec Ideal S128x128 .f32)
    (b2 : Vec Ideal S1x128 .f32) (w3 : Vec Ideal S128x64 .f32) (b3 : Vec Ideal S1x64 .f32) (r : Fin 4000) (c : Fin 64) :
    k0_pay10 s y w2 b2 w3 b3 (ix2 r c)
      = s (ix2 r c) + layer (fun d c => w3 (ix2 d c)) (fun c => b3 (ix2 0 c))
          (layer (fun d c => w2 (ix2 d c)) (fun c => b2 (ix2 0 c)) (fun d => y (ix2 r d))) c := by
  pointwise [k0_pay10, layer]

/-- The linear part: the categories as numbers times the folded table, and the bias. -/
theorem pay2_apply (x : Vec Ideal S4000x21 .i32) (wemb : Vec Ideal S21x128 .f32) (bias : Vec Ideal S1x128 .f32)
    (r : Fin 4000) (j : Fin 128) :
    k0_pay2 x wemb bias (ix2 r j)
      = (∑ i : Fin 21, (FloatOps.sitofp .f32 (x (ix2 r i)) : Ideal .f32) * wemb (ix2 i j)) + bias (ix2 0 j) := by
  pointwise [k0_pay2]

/-- The whole store: the linear part plus the four groups' sum times the placing matrix. -/
theorem pay1_apply (a : FVec Ideal S4000x128 .f32) (s : FVec Ideal S4000x64 .f32) (e : FVec Ideal S4000x32 .f32)
    (g : Vec Ideal S1x32x128 .f32) (ba : Vec Ideal S1x128 .f32) (w1 : Vec Ideal S128x128 .f32) (b1 : Vec Ideal S1x128 .f32)
    (w2 : Vec Ideal S128x128 .f32) (b2 : Vec Ideal S1x128 .f32) (w3 : Vec Ideal S128x64 .f32) (b3 : Vec Ideal S1x64 .f32)
    (t : Vec Ideal S64x128 .f32) (r : Fin 4000) (j : Fin 128) :
    k0_pay1 a s (k0_pay11 e g ba w1 b1) k0_pay12 w2 b2 w3 b3 t (ix2 r j)
      = a (ix2 r j) + ∑ c : Fin 64, (s (ix2 r c) + layer (fun d c => w3 (ix2 d c)) (fun c => b3 (ix2 0 c))
          (layer (fun d c => w2 (ix2 d c)) (fun c => b2 (ix2 0 c))
            (layer (fun d c => w1 (ix2 d c)) (fun c => b1 (ix2 0 c))
              (layer (fun q d => g (ix3 0 q d)) (fun d => ba (ix2 0 d)) (fun q => e (ix2 r q))))) c) * t (ix2 c j) := by
  pointwise [k0_pay1, k0_pay11, k0_pay12, layer]

/-- Group `g`'s four layers on row `r` of a block. -/
def groupRow (v w : Vec Ideal S4000x16 .f32) (x5 : Vec Ideal S4x32x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x64 .f32) (x12 : Vec Ideal S1x64 .f32) (g : Fin 4) (r : Fin 4000) : Fin 64 → EReal :=
  layer (fun d c => x11 (ix2 d c)) (fun c => x12 (ix2 0 c))
    (layer (fun d c => x9 (ix2 d c)) (fun c => x10 (ix2 0 c))
      (layer (fun d c => x7 (ix2 d c)) (fun c => x8 (ix2 0 c))
        (layer (fun q d => x5 (ix3 g q d)) (fun d => x6 (ix2 0 d)) (catRow v w r))))

/-- What one grid point stores, at an index of its block. -/
theorem out_apply (x0 : Vec Ideal S4000x21 .i32) (x1 x2 : Vec Ideal S4000x16 .f32) (x3 : Vec Ideal S21x128 .f32)
    (x4 : Vec Ideal S1x128 .f32) (x5 : Vec Ideal S4x32x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x64 .f32) (x12 : Vec Ideal S1x64 .f32) (x13 : Vec Ideal S64x128 .f32) (r : Fin 4000) (j : Fin 128) :
    out0_14 x0 x1 x2 x3 x4 x5 x6 x7 x8 x9 x10 x11 x12 x13 (ix2 r j)
      = ((∑ i : Fin 21, (FloatOps.sitofp .f32 (x0 (ix2 r i)) : Ideal .f32) * x3 (ix2 i j)) + x4 (ix2 0 j))
        + ∑ c : Fin 64, (groupRow x1 x2 x5 x6 x7 x8 x9 x10 x11 x12 0 r c + groupRow x1 x2 x5 x6 x7 x8 x9 x10 x11 x12 1 r c
            + groupRow x1 x2 x5 x6 x7 x8 x9 x10 x11 x12 2 r c + groupRow x1 x2 x5 x6 x7 x8 x9 x10 x11 x12 3 r c) * x13 (ix2 c j) := by
  unfold out0_14 k0_pay13
  rw [View.canon_unit_zero]
  rw [pay1_apply]
  have e1 : View.ld x1 r0_3 = x1 := by funext i; idx_vars i; pointwise
  have e2 : View.ld x2 r0_3 = x2 := by funext i; idx_vars i; pointwise
  simp only [e1, e2, pay2_apply, pay10_apply, pay8_apply, pay6_apply, pay4_apply, pay7_apply, pay9_apply, pay3_apply, groupRow]
  · pointwise
  · funext a
    fin_cases a <;> rfl

end Cert.Block

end
-- ==== Proof.HostTerm.lean ====
module

public import Idealize.ShloMosaic.Lib.Pointwise
public import Idealize.ShloMosaic.Lib.StableHlo.RunRead
public import Idealize.ShloMosaic.Lib.Tactic.CleanTypes
public import proofs.«01_k».proof.Proof.Gen.KernelIdeal.Frame

@[expose] public section

set_option maxRecDepth 16384

noncomputable section

/-! The arrays that the operations before the kernel's launch compute, each as one term of the arguments. -/

namespace Cert.HostTerm

open Idealize.ShloMosaic Idealize.ShloMosaic.TcCoe Cert.KernelIdeal Cert.KernelIdeal.Gen

/-- Row 1 of a table minus its row 0. -/
def diff {D : ℕ} (t : FVec Ideal ⟨2, ![D, 128]⟩ .f32) (h1 : Shape.Slices ⟨2, ![D, 128]⟩ ![1, 0] S1x128) (h0 : Shape.Slices ⟨2, ![D, 128]⟩ ![0, 0] S1x128) : FVec Ideal S128 .f32 :=
  subf (shapeCast S128 (extractStridedSlice S1x128 ![1, 0] t h1) shapeCasts_S1x128_S128)
    (shapeCast S128 (extractStridedSlice S1x128 ![0, 0] t h0) shapeCasts_S1x128_S128)

/-- A vector as one row. -/
def row (v : FVec Ideal S128 .f32) : FVec Ideal S1x128 .f32 := broadcastInDim S1x128 ![1] bcast_S128_S1x128_1 v

/-- The nine atom tables' differences, stacked. -/
def atomDiff (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32) : FVec Ideal S9x128 .f32 :=
  concatenate S9x128 0 [⟨S1x128, row (diff a0 slices_S119x128_S1x128_1_0 slices_S119x128_S1x128_0_0)⟩, ⟨S1x128, row (diff a1 slices_S4x128_S1x128_1_0 slices_S4x128_S1x128_0_0)⟩, ⟨S1x128, row (diff a2 slices_S12x128_S1x128_1_0 slices_S12x128_S1x128_0_0)⟩, ⟨S1x128, row (diff a3 slices_S12x128_S1x128_1_0 slices_S12x128_S1x128_0_0)⟩, ⟨S1x128, row (diff a4 slices_S10x128_S1x128_1_0 slices_S10x128_S1x128_0_0)⟩, ⟨S1x128, row (diff a5 slices_S6x128_S1x128_1_0 slices_S6x128_S1x128_0_0)⟩, ⟨S1x128, row (diff a6 slices_S6x128_S1x128_1_0 slices_S6x128_S1x128_0_0)⟩, ⟨S1x128, row (diff a7 slices_S2x128_S1x128_1_0 slices_S2x128_S1x128_0_0)⟩, ⟨S1x128, row (diff a8 slices_S2x128_S1x128_1_0 slices_S2x128_S1x128_0_0)⟩]
    concatenates_S1x128_S1x128_S1x128_S1x128_S1x128_S1x128_S1x128_S1x128_S1x128_S9x128_d0

/-- The three bond tables' differences, stacked. -/
def bondDiff (b0 : FVec Ideal S5x128 .f32) (b1 : FVec Ideal S6x128 .f32) (b2 : FVec Ideal S3x128 .f32) : FVec Ideal S3x128 .f32 :=
  concatenate S3x128 0 [⟨S1x128, row (diff b0 slices_S5x128_S1x128_1_0 slices_S5x128_S1x128_0_0)⟩, ⟨S1x128, row (diff b1 slices_S6x128_S1x128_1_0 slices_S6x128_S1x128_0_0)⟩, ⟨S1x128, row (diff b2 slices_S3x128_S1x128_1_0 slices_S3x128_S1x128_0_0)⟩]
    concatenates_S1x128_S1x128_S1x128_S3x128_d0

/-- The matrix of differences by category column: bonds, atoms negated, atoms. -/
def diffs (b0 : FVec Ideal S5x128 .f32) (b1 : FVec Ideal S6x128 .f32) (b2 : FVec Ideal S3x128 .f32) (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32) : FVec Ideal S21x128 .f32 :=
  concatenate S21x128 0 [⟨S3x128, bondDiff b0 b1 b2⟩, ⟨S9x128, Host.negf (atomDiff a0 a1 a2 a3 a4 a5 a6 a7 a8)⟩, ⟨S9x128, atomDiff a0 a1 a2 a3 a4 a5 a6 a7 a8⟩]
    concatenates_S3x128_S9x128_S9x128_S21x128_d0

/-- The folded table: the differences through the linear map, 16 zero lanes behind. -/
def wemb (b0 : FVec Ideal S5x128 .f32) (b1 : FVec Ideal S6x128 .f32) (b2 : FVec Ideal S3x128 .f32) (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32) (wx : FVec Ideal S128x112 .f32) : FVec Ideal S21x128 .f32 :=
  pad S21x128 ![0, 0] ![0, 16] ![0, 0] (Host.dotGeneral dot_S21x128_S128x112_S21x112_1_0_0_1_n_n none (diffs b0 b1 b2 a0 a1 a2 a3 a4 a5 a6 a7 a8) wx)
    (sitofp .f32 (constantI S_ 32 0#32)) pads_S21x112_S21x128_000_0160 h_S_

/-- Row 0 of a table. -/
def row0 {D : ℕ} (t : FVec Ideal ⟨2, ![D, 128]⟩ .f32) (h0 : Shape.Slices ⟨2, ![D, 128]⟩ ![0, 0] S1x128) : FVec Ideal S128 .f32 :=
  shapeCast S128 (extractStridedSlice S1x128 ![0, 0] t h0) shapeCasts_S1x128_S128

/-- The folded bias: the bonds' rows 0 through the linear map, plus its bias, 16 zero lanes behind. -/
def bias (b0 : FVec Ideal S5x128 .f32) (b1 : FVec Ideal S6x128 .f32) (b2 : FVec Ideal S3x128 .f32) (wx : FVec Ideal S128x112 .f32) (bx : FVec Ideal S112 .f32) : FVec Ideal S1x128 .f32 :=
  shapeCast S1x128 (pad S128 ![0] ![16] ![0]
    (addf (Host.dotGeneral dot_S128_S128x112_S112_0_0_n_1_n_n none
      (addf (addf (row0 b0 slices_S5x128_S1x128_0_0) (row0 b1 slices_S6x128_S1x128_0_0)) (row0 b2 slices_S3x128_S1x128_0_0)) wx) bx)
    (sitofp .f32 (constantI S_ 32 0#32)) pads_S112_S128_0160 h_S_) shapeCasts_S128_S1x128

/-- The first layer's weights, tiled four times along the lanes. -/
def tileA (wa : FVec Ideal S2x32 .f32) : FVec Ideal S2x128 .f32 :=
  shapeCast S2x128 (broadcastInDim S1x2x4x32 ![0, 1, 2, 3] bcast_S1x2x1x32_S1x2x4x32_0_1_2_3
    (shapeCast S1x2x1x32 wa shapeCasts_S2x32_S1x2x1x32)) shapeCasts_S1x2x4x32_S2x128

/-- A row of 128 lanes copied to every row of the four groups. -/
def spread (v : FVec Ideal S1x128 .f32) : FVec Ideal S4x32x128 .f32 :=
  broadcastInDim S4x32x128 ![0, 1, 2] bcast_S1x1x128_S4x32x128_0_1_2
    (broadcastInDim S1x1x128 ![2] bcast_S128_S1x1x128_2 (shapeCast S128 v shapeCasts_S1x128_S128))

/-- The four groups' first-layer matrices. -/
def g32 (wa : FVec Ideal S2x32 .f32) : FVec Ideal S4x32x128 .f32 :=
  addf (mulf (fun i => FloatOps.ofBits .f32 (lit0 (S4x32x128.rowMajor i)))
      (spread (extractStridedSlice S1x128 ![0, 0] (tileA wa) slices_S2x128_S1x128_0_0)))
    (mulf (fun i => FloatOps.ofBits .f32 (lit1 (S4x32x128.rowMajor i)))
      (spread (extractStridedSlice S1x128 ![1, 0] (tileA wa) slices_S2x128_S1x128_1_0)))

/-- A bias of 32 entries, tiled four times. -/
def tile32 (b : FVec Ideal S32 .f32) : FVec Ideal S1x128 .f32 :=
  shapeCast S1x128 (shapeCast S128 (broadcastInDim S4x32 ![0, 1] bcast_S1x32_S4x32_0_1 (shapeCast S1x32 b shapeCasts_S32_S1x32))
    shapeCasts_S4x32_S128) shapeCasts_S128_S1x128

/-- A bias of 16 entries, tiled four times. -/
def tile16 (b : FVec Ideal S16 .f32) : FVec Ideal S1x64 .f32 :=
  shapeCast S1x64 (shapeCast S64 (broadcastInDim S4x16 ![0, 1] bcast_S1x16_S4x16_0_1 (shapeCast S1x16 b shapeCasts_S16_S1x16))
    shapeCasts_S4x16_S64) shapeCasts_S64_S1x64

/-- A 32 by 32 layer's weights, tiled four by four and masked to the diagonal blocks. -/
def diag32 (w : FVec Ideal S32x32 .f32) : FVec Ideal S128x128 .f32 :=
  mulf (shapeCast S128x128 (broadcastInDim S4x32x4x32 ![0, 1, 2, 3] bcast_S1x32x1x32_S4x32x4x32_0_1_2_3
      (shapeCast S1x32x1x32 w shapeCasts_S32x32_S1x32x1x32)) shapeCasts_S4x32x4x32_S128x128)
    (fun i => FloatOps.ofBits .f32 (lit2 (S128x128.rowMajor i)))

/-- The 32 by 16 layer's weights, tiled four by four and masked to the diagonal blocks. -/
def diag16 (w : FVec Ideal S32x16 .f32) : FVec Ideal S128x64 .f32 :=
  mulf (shapeCast S128x64 (broadcastInDim S4x32x4x16 ![0, 1, 2, 3] bcast_S1x32x1x16_S4x32x4x16_0_1_2_3
      (shapeCast S1x32x1x16 w shapeCasts_S32x16_S1x32x1x16)) shapeCasts_S4x32x4x16_S128x64)
    (fun i => FloatOps.ofBits .f32 (lit3 (S128x64.rowMajor i)))

/-- The placing matrix. -/
def place : FVec Ideal S64x128 .f32 := fun i => FloatOps.ofBits .f32 (lit4 (S64x128.rowMajor i))

end Cert.HostTerm

end
-- ==== Proof.HostValue.lean ====
module

public import proofs.«01_k».proof.Proof.HostTerm

@[expose] public section

set_option maxRecDepth 16384

noncomputable section

/-! The arrays that the kernel's launch finds, read at an index. -/

namespace Cert.HostValue

open Idealize.ShloMosaic Cert.KernelIdeal Cert.KernelIdeal.Gen Cert.HostTerm

/-- The whole number 0, read as a number, is 0. -/
theorem pad_zero : (FloatOps.sitofp .f32 0#32 : Ideal .f32) = 0 := by
  show (((0#32 : BitVec 32).toInt : ℝ) : EReal) = 0
  simp

/-- A bias of 32 numbers repeated four times, at an index. -/
theorem tile32_apply (b : FVec Ideal S32 .f32) (d : Fin 128) : tile32 b (ix2 0 d) = b (ix1 ⟨d.val % 32, by omega⟩) := by
  pointwise [tile32]

/-- A bias of 16 numbers repeated four times, at an index. -/
theorem tile16_apply (b : FVec Ideal S16 .f32) (d : Fin 64) : tile16 b (ix2 0 d) = b (ix1 ⟨d.val % 16, by omega⟩) := by
  pointwise [tile16]

/-- A block-diagonal matrix of four 32 by 32 blocks, at an index. -/
theorem diag32_apply (w : FVec Ideal S32x32 .f32) (d e : Fin 128) :
    diag32 w (ix2 d e) = w (ix2 ⟨d.val % 32, by omega⟩ ⟨e.val % 32, by omega⟩) * Ideal.ofBits .f32 (lit2 (S128x128.rowMajor (ix2 d e))) := by
  pointwise [diag32]

/-- A block-diagonal matrix of four 32 by 16 blocks, at an index. -/
theorem diag16_apply (w : FVec Ideal S32x16 .f32) (d : Fin 128) (e : Fin 64) :
    diag16 w (ix2 d e) = w (ix2 ⟨d.val % 32, by omega⟩ ⟨e.val % 16, by omega⟩) * Ideal.ofBits .f32 (lit3 (S128x64.rowMajor (ix2 d e))) := by
  pointwise [diag16]

/-- The placing matrix, at an index. -/
theorem place_apply (c : Fin 64) (j : Fin 128) : place (ix2 c j) = Ideal.ofBits .f32 (lit4 (S64x128.rowMajor (ix2 c j))) := rfl

/-- The first-layer matrix of a group, at an index. -/
theorem g32_apply (wa : FVec Ideal S2x32 .f32) (g : Fin 4) (q : Fin 32) (d : Fin 128) :
    g32 wa (ix3 g q d)
      = Ideal.ofBits .f32 (lit0 (S4x32x128.rowMajor (ix3 g q d))) * wa (ix2 0 ⟨d.val % 32, by omega⟩)
        + Ideal.ofBits .f32 (lit1 (S4x32x128.rowMajor (ix3 g q d))) * wa (ix2 1 ⟨d.val % 32, by omega⟩) := by
  pointwise [g32, spread, tileA]

/-- The embedding weights: the difference rows times `Wx`, and zero in the last 16 columns. -/
theorem wemb_apply (b0 : FVec Ideal S5x128 .f32) (b1 : FVec Ideal S6x128 .f32) (b2 : FVec Ideal S3x128 .f32) (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32) (wx : FVec Ideal S128x112 .f32) (i : Fin 21) (j : Fin 128) :
    wemb b0 b1 b2 a0 a1 a2 a3 a4 a5 a6 a7 a8 wx (ix2 i j)
      = if h : j.val < 112 then ∑ k : Fin 128, diffs b0 b1 b2 a0 a1 a2 a3 a4 a5 a6 a7 a8 (ix2 i k) * wx (ix2 k ⟨j.val, h⟩) else 0 := by
  unfold wemb
  generalize diffs b0 b1 b2 a0 a1 a2 a3 a4 a5 a6 a7 a8 = M
  pointwise
  rw [pad_zero]

/-- The embedding bias: the bond rows 0 times `Wx`, plus `bx`, and zero in the last 16 columns. -/
theorem bias_apply (b0 : FVec Ideal S5x128 .f32) (b1 : FVec Ideal S6x128 .f32) (b2 : FVec Ideal S3x128 .f32) (wx : FVec Ideal S128x112 .f32) (bx : FVec Ideal S112 .f32) (j : Fin 128) :
    bias b0 b1 b2 wx bx (ix2 0 j)
      = if h : j.val < 112 then (∑ k : Fin 128, (b0 (ix2 0 k) + b1 (ix2 0 k) + b2 (ix2 0 k)) * wx (ix2 k ⟨j.val, h⟩)) + bx (ix1 ⟨j.val, h⟩) else 0 := by
  pointwise [bias, row0]
  rw [pad_zero]

/-- A bond table: row 1 minus row 0. -/
theorem bondDiff_apply (b0 : FVec Ideal S5x128 .f32) (b1 : FVec Ideal S6x128 .f32) (b2 : FVec Ideal S3x128 .f32) (i : Fin 3) (k : Fin 128) :
    bondDiff b0 b1 b2 (ix2 i k)
      = (![b0 (ix2 1 k) - b0 (ix2 0 k), b1 (ix2 1 k) - b1 (ix2 0 k), b2 (ix2 1 k) - b2 (ix2 0 k)] : Fin 3 → EReal) i := by
  pointwise [bondDiff, row, diff]
  fin_cases i <;> rfl

/-- An atom table: row 1 minus row 0. -/
theorem atomDiff_apply (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32) (i : Fin 9) (k : Fin 128) :
    atomDiff a0 a1 a2 a3 a4 a5 a6 a7 a8 (ix2 i k)
      = (![a0 (ix2 1 k) - a0 (ix2 0 k), a1 (ix2 1 k) - a1 (ix2 0 k), a2 (ix2 1 k) - a2 (ix2 0 k), a3 (ix2 1 k) - a3 (ix2 0 k), a4 (ix2 1 k) - a4 (ix2 0 k), a5 (ix2 1 k) - a5 (ix2 0 k), a6 (ix2 1 k) - a6 (ix2 0 k), a7 (ix2 1 k) - a7 (ix2 0 k), a8 (ix2 1 k) - a8 (ix2 0 k)] : Fin 9 → EReal) i := by
  pointwise [atomDiff, row, diff]
  fin_cases i <;> rfl

/-- The 21 difference rows: bonds, negated atoms, atoms. -/
theorem diffs_apply (b0 : FVec Ideal S5x128 .f32) (b1 : FVec Ideal S6x128 .f32) (b2 : FVec Ideal S3x128 .f32) (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32) (i : Fin 21) (k : Fin 128) :
    diffs b0 b1 b2 a0 a1 a2 a3 a4 a5 a6 a7 a8 (ix2 i k)
      = if h : i.val < 3 then bondDiff b0 b1 b2 (ix2 ⟨i.val, h⟩ k)
        else if h' : i.val < 12 then - atomDiff a0 a1 a2 a3 a4 a5 a6 a7 a8 (ix2 ⟨i.val - 3, by omega⟩ k)
        else atomDiff a0 a1 a2 a3 a4 a5 a6 a7 a8 (ix2 ⟨i.val - 12, by omega⟩ k) := by
  unfold diffs
  generalize bondDiff b0 b1 b2 = P
  generalize atomDiff a0 a1 a2 a3 a4 a5 a6 a7 a8 = Q
  pointwise
  by_cases h : i.val < 3
  · simp only [dif_pos h]
  · by_cases h' : i.val < 12
    · simp only [dif_neg h, dif_pos h', dif_pos (show i.val - 3 < 9 by omega)]
    · simp only [dif_neg h, dif_neg h', dif_neg (show ¬ i.val - 3 < 9 by omega), show i.val - 3 - 9 = i.val - 12 by omega]

end Cert.HostValue

end
-- ==== Proof.Bit.lean ====
module

public import Idealize.ShloMosaic.Lib.Pointwise

@[expose] public section

set_option maxRecDepth 16384

namespace Cert.Tables

/-- The printed bits of 1.0 where `p` holds, of 0.0 elsewhere. -/
def bit (p : Bool) : BitVec 32 := if p then 0x3F800000#32 else 0x00000000#32

end Cert.Tables
-- ==== Proof.Table0.lean ====
module

public import proofs.«01_k».proof.Proof.Bit
public import proofs.«01_k».proof.KernelIdeal

@[expose] public section

set_option maxRecDepth 16384
set_option Elab.async false

namespace Cert.Tables

open Cert.KernelIdeal

/-- Every entry of part 0 of the rows of table 0 is the value of its 0 or 1. -/
theorem lit0_rows0 : ∀ (a : Fin 16) (b : Fin 128), lit0t (128 * (0 + a.val) + b.val) = bit ((0 + a.val) % 32 == 4 * ((0 + a.val) / 32) + b.val / 32) := by
  decide +kernel

/-- Every entry of part 1 of the rows of table 0 is the value of its 0 or 1. -/
theorem lit0_rows1 : ∀ (a : Fin 16) (b : Fin 128), lit0t (128 * (16 + a.val) + b.val) = bit ((16 + a.val) % 32 == 4 * ((16 + a.val) / 32) + b.val / 32) := by
  decide +kernel

/-- Every entry of part 2 of the rows of table 0 is the value of its 0 or 1. -/
theorem lit0_rows2 : ∀ (a : Fin 16) (b : Fin 128), lit0t (128 * (32 + a.val) + b.val) = bit ((32 + a.val) % 32 == 4 * ((32 + a.val) / 32) + b.val / 32) := by
  decide +kernel

/-- Every entry of part 3 of the rows of table 0 is the value of its 0 or 1. -/
theorem lit0_rows3 : ∀ (a : Fin 16) (b : Fin 128), lit0t (128 * (48 + a.val) + b.val) = bit ((48 + a.val) % 32 == 4 * ((48 + a.val) / 32) + b.val / 32) := by
  decide +kernel

/-- Every entry of part 4 of the rows of table 0 is the value of its 0 or 1. -/
theorem lit0_rows4 : ∀ (a : Fin 16) (b : Fin 128), lit0t (128 * (64 + a.val) + b.val) = bit ((64 + a.val) % 32 == 4 * ((64 + a.val) / 32) + b.val / 32) := by
  decide +kernel

/-- Every entry of part 5 of the rows of table 0 is the value of its 0 or 1. -/
theorem lit0_rows5 : ∀ (a : Fin 16) (b : Fin 128), lit0t (128 * (80 + a.val) + b.val) = bit ((80 + a.val) % 32 == 4 * ((80 + a.val) / 32) + b.val / 32) := by
  decide +kernel

/-- Every entry of part 6 of the rows of table 0 is the value of its 0 or 1. -/
theorem lit0_rows6 : ∀ (a : Fin 16) (b : Fin 128), lit0t (128 * (96 + a.val) + b.val) = bit ((96 + a.val) % 32 == 4 * ((96 + a.val) / 32) + b.val / 32) := by
  decide +kernel

/-- Every entry of part 7 of the rows of table 0 is the value of its 0 or 1. -/
theorem lit0_rows7 : ∀ (a : Fin 16) (b : Fin 128), lit0t (128 * (112 + a.val) + b.val) = bit ((112 + a.val) % 32 == 4 * ((112 + a.val) / 32) + b.val / 32) := by
  decide +kernel

/-- The first placing table: row `32 g + q`, lane `d` holds 1 exactly when `q = 4 g + d / 32`. -/
theorem lit0_row (a : Fin 128) (b : Fin 128) : lit0t (128 * a.val + b.val) = bit (a.val % 32 == 4 * (a.val / 32) + b.val / 32) := by
  have hd : 16 * (a.val / 16) + a.val % 16 = a.val := Nat.div_add_mod ..
  have hm : a.val % 16 < 16 := Nat.mod_lt _ (by decide)
  have hq : a.val / 16 < 8 := by omega
  rw [← hd]
  generalize a.val % 16 = r at hm
  generalize a.val / 16 = q at hq
  match q, hq with
  | 0, _ => exact lit0_rows0 ⟨r, hm⟩ b
  | 1, _ => exact lit0_rows1 ⟨r, hm⟩ b
  | 2, _ => exact lit0_rows2 ⟨r, hm⟩ b
  | 3, _ => exact lit0_rows3 ⟨r, hm⟩ b
  | 4, _ => exact lit0_rows4 ⟨r, hm⟩ b
  | 5, _ => exact lit0_rows5 ⟨r, hm⟩ b
  | 6, _ => exact lit0_rows6 ⟨r, hm⟩ b
  | 7, _ => exact lit0_rows7 ⟨r, hm⟩ b

end Cert.Tables
-- ==== Proof.Table1.lean ====
module

public import proofs.«01_k».proof.Proof.Bit
public import proofs.«01_k».proof.KernelIdeal

@[expose] public section

set_option maxRecDepth 16384
set_option Elab.async false

namespace Cert.Tables

open Cert.KernelIdeal

/-- Every entry of part 0 of the rows of table 1 is the value of its 0 or 1. -/
theorem lit1_rows0 : ∀ (a : Fin 16) (b : Fin 128), lit1t (128 * (0 + a.val) + b.val) = bit ((0 + a.val) % 32 == 16 + 4 * ((0 + a.val) / 32) + b.val / 32) := by
  decide +kernel

/-- Every entry of part 1 of the rows of table 1 is the value of its 0 or 1. -/
theorem lit1_rows1 : ∀ (a : Fin 16) (b : Fin 128), lit1t (128 * (16 + a.val) + b.val) = bit ((16 + a.val) % 32 == 16 + 4 * ((16 + a.val) / 32) + b.val / 32) := by
  decide +kernel

/-- Every entry of part 2 of the rows of table 1 is the value of its 0 or 1. -/
theorem lit1_rows2 : ∀ (a : Fin 16) (b : Fin 128), lit1t (128 * (32 + a.val) + b.val) = bit ((32 + a.val) % 32 == 16 + 4 * ((32 + a.val) / 32) + b.val / 32) := by
  decide +kernel

/-- Every entry of part 3 of the rows of table 1 is the value of its 0 or 1. -/
theorem lit1_rows3 : ∀ (a : Fin 16) (b : Fin 128), lit1t (128 * (48 + a.val) + b.val) = bit ((48 + a.val) % 32 == 16 + 4 * ((48 + a.val) / 32) + b.val / 32) := by
  decide +kernel

/-- Every entry of part 4 of the rows of table 1 is the value of its 0 or 1. -/
theorem lit1_rows4 : ∀ (a : Fin 16) (b : Fin 128), lit1t (128 * (64 + a.val) + b.val) = bit ((64 + a.val) % 32 == 16 + 4 * ((64 + a.val) / 32) + b.val / 32) := by
  decide +kernel

/-- Every entry of part 5 of the rows of table 1 is the value of its 0 or 1. -/
theorem lit1_rows5 : ∀ (a : Fin 16) (b : Fin 128), lit1t (128 * (80 + a.val) + b.val) = bit ((80 + a.val) % 32 == 16 + 4 * ((80 + a.val) / 32) + b.val / 32) := by
  decide +kernel

/-- Every entry of part 6 of the rows of table 1 is the value of its 0 or 1. -/
theorem lit1_rows6 : ∀ (a : Fin 16) (b : Fin 128), lit1t (128 * (96 + a.val) + b.val) = bit ((96 + a.val) % 32 == 16 + 4 * ((96 + a.val) / 32) + b.val / 32) := by
  decide +kernel

/-- Every entry of part 7 of the rows of table 1 is the value of its 0 or 1. -/
theorem lit1_rows7 : ∀ (a : Fin 16) (b : Fin 128), lit1t (128 * (112 + a.val) + b.val) = bit ((112 + a.val) % 32 == 16 + 4 * ((112 + a.val) / 32) + b.val / 32) := by
  decide +kernel

/-- The second placing table: row `32 g + q`, lane `d` holds 1 exactly when `q = 16 + 4 g + d / 32`. -/
theorem lit1_row (a : Fin 128) (b : Fin 128) : lit1t (128 * a.val + b.val) = bit (a.val % 32 == 16 + 4 * (a.val / 32) + b.val / 32) := by
  have hd : 16 * (a.val / 16) + a.val % 16 = a.val := Nat.div_add_mod ..
  have hm : a.val % 16 < 16 := Nat.mod_lt _ (by decide)
  have hq : a.val / 16 < 8 := by omega
  rw [← hd]
  generalize a.val % 16 = r at hm
  generalize a.val / 16 = q at hq
  match q, hq with
  | 0, _ => exact lit1_rows0 ⟨r, hm⟩ b
  | 1, _ => exact lit1_rows1 ⟨r, hm⟩ b
  | 2, _ => exact lit1_rows2 ⟨r, hm⟩ b
  | 3, _ => exact lit1_rows3 ⟨r, hm⟩ b
  | 4, _ => exact lit1_rows4 ⟨r, hm⟩ b
  | 5, _ => exact lit1_rows5 ⟨r, hm⟩ b
  | 6, _ => exact lit1_rows6 ⟨r, hm⟩ b
  | 7, _ => exact lit1_rows7 ⟨r, hm⟩ b

end Cert.Tables
-- ==== Proof.Table2.lean ====
module

public import proofs.«01_k».proof.Proof.Bit
public import proofs.«01_k».proof.KernelIdeal

@[expose] public section

set_option maxRecDepth 16384
set_option Elab.async false

namespace Cert.Tables

open Cert.KernelIdeal

/-- Every entry of part 0 of the rows of table 2 is the value of its 0 or 1. -/
theorem lit2_rows0 : ∀ (a : Fin 16) (b : Fin 128), lit2t (128 * (0 + a.val) + b.val) = bit ((0 + a.val) / 32 == b.val / 32) := by
  decide +kernel

/-- Every entry of part 1 of the rows of table 2 is the value of its 0 or 1. -/
theorem lit2_rows1 : ∀ (a : Fin 16) (b : Fin 128), lit2t (128 * (16 + a.val) + b.val) = bit ((16 + a.val) / 32 == b.val / 32) := by
  decide +kernel

/-- Every entry of part 2 of the rows of table 2 is the value of its 0 or 1. -/
theorem lit2_rows2 : ∀ (a : Fin 16) (b : Fin 128), lit2t (128 * (32 + a.val) + b.val) = bit ((32 + a.val) / 32 == b.val / 32) := by
  decide +kernel

/-- Every entry of part 3 of the rows of table 2 is the value of its 0 or 1. -/
theorem lit2_rows3 : ∀ (a : Fin 16) (b : Fin 128), lit2t (128 * (48 + a.val) + b.val) = bit ((48 + a.val) / 32 == b.val / 32) := by
  decide +kernel

/-- Every entry of part 4 of the rows of table 2 is the value of its 0 or 1. -/
theorem lit2_rows4 : ∀ (a : Fin 16) (b : Fin 128), lit2t (128 * (64 + a.val) + b.val) = bit ((64 + a.val) / 32 == b.val / 32) := by
  decide +kernel

/-- Every entry of part 5 of the rows of table 2 is the value of its 0 or 1. -/
theorem lit2_rows5 : ∀ (a : Fin 16) (b : Fin 128), lit2t (128 * (80 + a.val) + b.val) = bit ((80 + a.val) / 32 == b.val / 32) := by
  decide +kernel

/-- Every entry of part 6 of the rows of table 2 is the value of its 0 or 1. -/
theorem lit2_rows6 : ∀ (a : Fin 16) (b : Fin 128), lit2t (128 * (96 + a.val) + b.val) = bit ((96 + a.val) / 32 == b.val / 32) := by
  decide +kernel

/-- Every entry of part 7 of the rows of table 2 is the value of its 0 or 1. -/
theorem lit2_rows7 : ∀ (a : Fin 16) (b : Fin 128), lit2t (128 * (112 + a.val) + b.val) = bit ((112 + a.val) / 32 == b.val / 32) := by
  decide +kernel

/-- The mask of the 32 by 32 diagonal blocks. -/
theorem lit2_row (a : Fin 128) (b : Fin 128) : lit2t (128 * a.val + b.val) = bit (a.val / 32 == b.val / 32) := by
  have hd : 16 * (a.val / 16) + a.val % 16 = a.val := Nat.div_add_mod ..
  have hm : a.val % 16 < 16 := Nat.mod_lt _ (by decide)
  have hq : a.val / 16 < 8 := by omega
  rw [← hd]
  generalize a.val % 16 = r at hm
  generalize a.val / 16 = q at hq
  match q, hq with
  | 0, _ => exact lit2_rows0 ⟨r, hm⟩ b
  | 1, _ => exact lit2_rows1 ⟨r, hm⟩ b
  | 2, _ => exact lit2_rows2 ⟨r, hm⟩ b
  | 3, _ => exact lit2_rows3 ⟨r, hm⟩ b
  | 4, _ => exact lit2_rows4 ⟨r, hm⟩ b
  | 5, _ => exact lit2_rows5 ⟨r, hm⟩ b
  | 6, _ => exact lit2_rows6 ⟨r, hm⟩ b
  | 7, _ => exact lit2_rows7 ⟨r, hm⟩ b

end Cert.Tables
-- ==== Proof.Table3.lean ====
module

public import proofs.«01_k».proof.Proof.Bit
public import proofs.«01_k».proof.KernelIdeal

@[expose] public section

set_option maxRecDepth 16384
set_option Elab.async false

namespace Cert.Tables

open Cert.KernelIdeal

/-- Every entry of part 0 of the rows of table 3 is the value of its 0 or 1. -/
theorem lit3_rows0 : ∀ (a : Fin 16) (b : Fin 64), lit3t (64 * (0 + a.val) + b.val) = bit ((0 + a.val) / 32 == b.val / 16) := by
  decide +kernel

/-- Every entry of part 1 of the rows of table 3 is the value of its 0 or 1. -/
theorem lit3_rows1 : ∀ (a : Fin 16) (b : Fin 64), lit3t (64 * (16 + a.val) + b.val) = bit ((16 + a.val) / 32 == b.val / 16) := by
  decide +kernel

/-- Every entry of part 2 of the rows of table 3 is the value of its 0 or 1. -/
theorem lit3_rows2 : ∀ (a : Fin 16) (b : Fin 64), lit3t (64 * (32 + a.val) + b.val) = bit ((32 + a.val) / 32 == b.val / 16) := by
  decide +kernel

/-- Every entry of part 3 of the rows of table 3 is the value of its 0 or 1. -/
theorem lit3_rows3 : ∀ (a : Fin 16) (b : Fin 64), lit3t (64 * (48 + a.val) + b.val) = bit ((48 + a.val) / 32 == b.val / 16) := by
  decide +kernel

/-- Every entry of part 4 of the rows of table 3 is the value of its 0 or 1. -/
theorem lit3_rows4 : ∀ (a : Fin 16) (b : Fin 64), lit3t (64 * (64 + a.val) + b.val) = bit ((64 + a.val) / 32 == b.val / 16) := by
  decide +kernel

/-- Every entry of part 5 of the rows of table 3 is the value of its 0 or 1. -/
theorem lit3_rows5 : ∀ (a : Fin 16) (b : Fin 64), lit3t (64 * (80 + a.val) + b.val) = bit ((80 + a.val) / 32 == b.val / 16) := by
  decide +kernel

/-- Every entry of part 6 of the rows of table 3 is the value of its 0 or 1. -/
theorem lit3_rows6 : ∀ (a : Fin 16) (b : Fin 64), lit3t (64 * (96 + a.val) + b.val) = bit ((96 + a.val) / 32 == b.val / 16) := by
  decide +kernel

/-- Every entry of part 7 of the rows of table 3 is the value of its 0 or 1. -/
theorem lit3_rows7 : ∀ (a : Fin 16) (b : Fin 64), lit3t (64 * (112 + a.val) + b.val) = bit ((112 + a.val) / 32 == b.val / 16) := by
  decide +kernel

/-- The mask of the 32 by 16 diagonal blocks. -/
theorem lit3_row (a : Fin 128) (b : Fin 64) : lit3t (64 * a.val + b.val) = bit (a.val / 32 == b.val / 16) := by
  have hd : 16 * (a.val / 16) + a.val % 16 = a.val := Nat.div_add_mod ..
  have hm : a.val % 16 < 16 := Nat.mod_lt _ (by decide)
  have hq : a.val / 16 < 8 := by omega
  rw [← hd]
  generalize a.val % 16 = r at hm
  generalize a.val / 16 = q at hq
  match q, hq with
  | 0, _ => exact lit3_rows0 ⟨r, hm⟩ b
  | 1, _ => exact lit3_rows1 ⟨r, hm⟩ b
  | 2, _ => exact lit3_rows2 ⟨r, hm⟩ b
  | 3, _ => exact lit3_rows3 ⟨r, hm⟩ b
  | 4, _ => exact lit3_rows4 ⟨r, hm⟩ b
  | 5, _ => exact lit3_rows5 ⟨r, hm⟩ b
  | 6, _ => exact lit3_rows6 ⟨r, hm⟩ b
  | 7, _ => exact lit3_rows7 ⟨r, hm⟩ b

end Cert.Tables
-- ==== Proof.Table4.lean ====
module

public import proofs.«01_k».proof.Proof.Bit
public import proofs.«01_k».proof.KernelIdeal

@[expose] public section

set_option maxRecDepth 16384
set_option Elab.async false

namespace Cert.Tables

open Cert.KernelIdeal

/-- Every entry of part 0 of the rows of table 4 is the value of its 0 or 1. -/
theorem lit4_rows0 : ∀ (a : Fin 8) (b : Fin 128), lit4t (128 * (0 + a.val) + b.val) = bit (b.val == 112 + (0 + a.val) % 16) := by
  decide +kernel

/-- Every entry of part 1 of the rows of table 4 is the value of its 0 or 1. -/
theorem lit4_rows1 : ∀ (a : Fin 8) (b : Fin 128), lit4t (128 * (8 + a.val) + b.val) = bit (b.val == 112 + (8 + a.val) % 16) := by
  decide +kernel

/-- Every entry of part 2 of the rows of table 4 is the value of its 0 or 1. -/
theorem lit4_rows2 : ∀ (a : Fin 8) (b : Fin 128), lit4t (128 * (16 + a.val) + b.val) = bit (b.val == 112 + (16 + a.val) % 16) := by
  decide +kernel

/-- Every entry of part 3 of the rows of table 4 is the value of its 0 or 1. -/
theorem lit4_rows3 : ∀ (a : Fin 8) (b : Fin 128), lit4t (128 * (24 + a.val) + b.val) = bit (b.val == 112 + (24 + a.val) % 16) := by
  decide +kernel

/-- Every entry of part 4 of the rows of table 4 is the value of its 0 or 1. -/
theorem lit4_rows4 : ∀ (a : Fin 8) (b : Fin 128), lit4t (128 * (32 + a.val) + b.val) = bit (b.val == 112 + (32 + a.val) % 16) := by
  decide +kernel

/-- Every entry of part 5 of the rows of table 4 is the value of its 0 or 1. -/
theorem lit4_rows5 : ∀ (a : Fin 8) (b : Fin 128), lit4t (128 * (40 + a.val) + b.val) = bit (b.val == 112 + (40 + a.val) % 16) := by
  decide +kernel

/-- Every entry of part 6 of the rows of table 4 is the value of its 0 or 1. -/
theorem lit4_rows6 : ∀ (a : Fin 8) (b : Fin 128), lit4t (128 * (48 + a.val) + b.val) = bit (b.val == 112 + (48 + a.val) % 16) := by
  decide +kernel

/-- Every entry of part 7 of the rows of table 4 is the value of its 0 or 1. -/
theorem lit4_rows7 : ∀ (a : Fin 8) (b : Fin 128), lit4t (128 * (56 + a.val) + b.val) = bit (b.val == 112 + (56 + a.val) % 16) := by
  decide +kernel

/-- The placing matrix: row `c`, lane `112 + p` holds 1 exactly when `c % 16 = p`. -/
theorem lit4_row (a : Fin 64) (b : Fin 128) : lit4t (128 * a.val + b.val) = bit (b.val == 112 + a.val % 16) := by
  have hd : 8 * (a.val / 8) + a.val % 8 = a.val := Nat.div_add_mod ..
  have hm : a.val % 8 < 8 := Nat.mod_lt _ (by decide)
  have hq : a.val / 8 < 8 := by omega
  rw [← hd]
  generalize a.val % 8 = r at hm
  generalize a.val / 8 = q at hq
  match q, hq with
  | 0, _ => exact lit4_rows0 ⟨r, hm⟩ b
  | 1, _ => exact lit4_rows1 ⟨r, hm⟩ b
  | 2, _ => exact lit4_rows2 ⟨r, hm⟩ b
  | 3, _ => exact lit4_rows3 ⟨r, hm⟩ b
  | 4, _ => exact lit4_rows4 ⟨r, hm⟩ b
  | 5, _ => exact lit4_rows5 ⟨r, hm⟩ b
  | 6, _ => exact lit4_rows6 ⟨r, hm⟩ b
  | 7, _ => exact lit4_rows7 ⟨r, hm⟩ b

end Cert.Tables
-- ==== Proof.Bits.lean ====
module

public import Idealize.ShloMosaic.Lib.Pointwise
public import proofs.«01_k».proof.Proof.Table0
public import proofs.«01_k».proof.Proof.Table1
public import proofs.«01_k».proof.Proof.Table2
public import proofs.«01_k».proof.Proof.Table3
public import proofs.«01_k».proof.Proof.Table4

@[expose] public section

set_option maxRecDepth 16384

noncomputable section

/-! The five literal arrays, as ones and zeros. -/

namespace Cert.Bits

open Idealize.ShloMosaic Cert.KernelIdeal Cert.Tables

/-- A bit as a number. -/
theorem ofBits_bit (p : Bool) : Ideal.ofBits .f32 (bit p) = if p then 1 else 0 := by
  cases p
  · exact Ideal.ofBits_zero_f32
  · exact Ideal.ofBits_one_f32

/-- The literal that picks a slot's first feature: one at lane `4 g + d / 32`. -/
theorem lit0_apply (g : Fin 4) (q : Fin 32) (d : Fin 128) :
    Ideal.ofBits .f32 (lit0 (S4x32x128.rowMajor (ix3 g q d))) = if q.val = 4 * g.val + d.val / 32 then 1 else 0 := by
  have hv : (S4x32x128.rowMajor (ix3 g q d)).val = 128 * (32 * g.val + q.val) + d.val := by
    refine (Shape.rowMajor_val_three (d := ![4, 32, 128]) (ix3 g q d)).trans ?_
    show (g.val * 32 + q.val) * 128 + d.val = _
    omega
  have e : lit0 (S4x32x128.rowMajor (ix3 g q d)) = lit0t (S4x32x128.rowMajor (ix3 g q d)).val := rfl
  rw [e, hv, lit0_row ⟨32 * g.val + q.val, by omega⟩ d, ofBits_bit]
  have h1 : (32 * g.val + q.val) % 32 = q.val := by omega
  have h2 : (32 * g.val + q.val) / 32 = g.val := by omega
  have h3 : 16 + 4 * g.val + d.val / 32 = 16 + (4 * g.val + d.val / 32) := by omega
  simp only [h1, h2, beq_iff_eq]

/-- The literal that picks a slot's second feature: one at lane `16 + 4 g + d / 32`. -/
theorem lit1_apply (g : Fin 4) (q : Fin 32) (d : Fin 128) :
    Ideal.ofBits .f32 (lit1 (S4x32x128.rowMajor (ix3 g q d))) = if q.val = 16 + (4 * g.val + d.val / 32) then 1 else 0 := by
  have hv : (S4x32x128.rowMajor (ix3 g q d)).val = 128 * (32 * g.val + q.val) + d.val := by
    refine (Shape.rowMajor_val_three (d := ![4, 32, 128]) (ix3 g q d)).trans ?_
    show (g.val * 32 + q.val) * 128 + d.val = _
    omega
  have e : lit1 (S4x32x128.rowMajor (ix3 g q d)) = lit1t (S4x32x128.rowMajor (ix3 g q d)).val := rfl
  rw [e, hv, lit1_row ⟨32 * g.val + q.val, by omega⟩ d, ofBits_bit]
  have h1 : (32 * g.val + q.val) % 32 = q.val := by omega
  have h2 : (32 * g.val + q.val) / 32 = g.val := by omega
  have h3 : 16 + 4 * g.val + d.val / 32 = 16 + (4 * g.val + d.val / 32) := by omega
  simp only [h1, h2, h3, beq_iff_eq]

/-- The block diagonal of four 32 by 32 blocks. -/
theorem lit2_apply (a : Fin 128) (b : Fin 128) :
    Ideal.ofBits .f32 (lit2 (S128x128.rowMajor (ix2 a b))) = if a.val / 32 = b.val / 32 then 1 else 0 := by
  have hv : (S128x128.rowMajor (ix2 a b)).val = 128 * a.val + b.val := by
    refine (Shape.rowMajor_val_two (d := ![128, 128]) (ix2 a b)).trans ?_
    show a.val * 128 + b.val = _
    omega
  have e : lit2 (S128x128.rowMajor (ix2 a b)) = lit2t (S128x128.rowMajor (ix2 a b)).val := rfl
  rw [e, hv, lit2_row a b, ofBits_bit]
  simp only [beq_iff_eq]

/-- The block diagonal of four 32 by 16 blocks. -/
theorem lit3_apply (a : Fin 128) (b : Fin 64) :
    Ideal.ofBits .f32 (lit3 (S128x64.rowMajor (ix2 a b))) = if a.val / 32 = b.val / 16 then 1 else 0 := by
  have hv : (S128x64.rowMajor (ix2 a b)).val = 64 * a.val + b.val := by
    refine (Shape.rowMajor_val_two (d := ![128, 64]) (ix2 a b)).trans ?_
    show a.val * 64 + b.val = _
    omega
  have e : lit3 (S128x64.rowMajor (ix2 a b)) = lit3t (S128x64.rowMajor (ix2 a b)).val := rfl
  rw [e, hv, lit3_row a b, ofBits_bit]
  simp only [beq_iff_eq]

/-- The literal that adds lane `a` into output column `112 + a % 16`. -/
theorem lit4_apply (a : Fin 64) (b : Fin 128) :
    Ideal.ofBits .f32 (lit4 (S64x128.rowMajor (ix2 a b))) = if b.val = 112 + a.val % 16 then 1 else 0 := by
  have hv : (S64x128.rowMajor (ix2 a b)).val = 128 * a.val + b.val := by
    refine (Shape.rowMajor_val_two (d := ![64, 128]) (ix2 a b)).trans ?_
    show a.val * 128 + b.val = _
    omega
  have e : lit4 (S64x128.rowMajor (ix2 a b)) = lit4t (S64x128.rowMajor (ix2 a b)).val := rfl
  rw [e, hv, lit4_row a b, ofBits_bit]
  simp only [beq_iff_eq]

end Cert.Bits

end
-- ==== Proof.Collapse.lean ====
module

public import proofs.«01_k».proof.Proof.Spec

@[expose] public section

noncomputable section

/-! Sums against a matrix of ones and zeros, brought down to the entries where the matrix is one. -/

namespace Cert.Collapse

open Cert.Spec

/-- A sum over `m * n` positions, taken group by group. -/
theorem sum_groups {m n : Nat} (f : Fin (m * n) → EReal) :
    ∑ d, f d = ∑ a : Fin m, ∑ k : Fin n, f (finProdFinEquiv (a, k)) := by
  rw [← Fintype.sum_prod_type', ← finProdFinEquiv.sum_comp]

/-- Against a weight which is zero outside one group of 32, a sum over 128 lanes is the sum over that group. -/
theorem sum_block (x : Fin 128 → EReal) (f : Fin 32 → EReal) (c : Fin 4) :
    ∑ d : Fin 128, x d * (f ⟨d.val % 32, by omega⟩ * (if d.val / 32 = c.val then 1 else 0))
      = ∑ k : Fin 32, x ⟨32 * c.val + k.val, by omega⟩ * f k := by
  rw [sum_groups (m := 4) (n := 32), Finset.sum_eq_single c]
  · refine Finset.sum_congr rfl fun k _ => ?_
    have hv : (finProdFinEquiv (c, k) : Fin (4 * 32)).val = 32 * c.val + k.val := by simp [finProdFinEquiv, Nat.add_comm]
    have h1 : (⟨(finProdFinEquiv (c, k) : Fin (4 * 32)).val % 32, by omega⟩ : Fin 32) = k := by ext; simp only [hv]; omega
    have h2 : (finProdFinEquiv (c, k) : Fin (4 * 32)).val / 32 = c.val := by rw [hv]; omega
    have h3 : (finProdFinEquiv (c, k) : Fin (4 * 32)) = ⟨32 * c.val + k.val, by omega⟩ := Fin.ext hv
    rw [h1, if_pos h2, mul_one, h3]
  · intro a _ ha
    refine Finset.sum_eq_zero fun k _ => ?_
    have hv : (finProdFinEquiv (a, k) : Fin (4 * 32)).val = 32 * a.val + k.val := by simp [finProdFinEquiv, Nat.add_comm]
    have h2 : ¬ (finProdFinEquiv (a, k) : Fin (4 * 32)).val / 32 = c.val := by
      rw [hv]; intro h; exact ha (Fin.ext (by omega))
    rw [if_neg h2, mul_zero, mul_zero]
  · intro h; exact absurd (Finset.mem_univ _) h

/-- Against a weight which is one where the lane is `p` modulo 16, a sum over 64 lanes is the sum of four entries. -/
theorem sum_place (s : Fin 64 → EReal) (p : Fin 16) :
    ∑ c : Fin 64, s c * (if c.val % 16 = p.val then 1 else 0) = ∑ a : Fin 4, s ⟨16 * a.val + p.val, by omega⟩ := by
  rw [sum_groups (m := 4) (n := 16)]
  refine Finset.sum_congr rfl fun a _ => ?_
  have hv : ∀ k : Fin 16, (finProdFinEquiv (a, k) : Fin (4 * 16)).val = 16 * a.val + k.val := fun k => by
    simp [finProdFinEquiv, Nat.add_comm]
  rw [Finset.sum_eq_single p]
  · have h3 : (finProdFinEquiv (a, p) : Fin (4 * 16)) = ⟨16 * a.val + p.val, by omega⟩ := Fin.ext (hv p)
    rw [if_pos (by rw [hv]; omega), mul_one, h3]
  · intro k _ hk
    rw [if_neg (by rw [hv]; intro h; exact hk (Fin.ext (by omega))), mul_zero]
  · intro h; exact absurd (Finset.mem_univ _) h

/-- A sum over 16 slots, taken in four groups of four. -/
theorem sum_slots (y : Fin 16 → EReal) :
    ∑ k, y k = ∑ a : Fin 4, (y ⟨a.val, by omega⟩ + y ⟨4 + a.val, by omega⟩ + y ⟨8 + a.val, by omega⟩ + y ⟨12 + a.val, by omega⟩) := by
  simp only [Fin.sum_univ_succ, Fin.sum_univ_zero, Finset.univ_eq_empty, Finset.sum_empty]
  simp only [Fin.val_zero, Fin.val_succ]
  simp only [add_zero, Fin.succ_zero_eq_one]
  show y 0 + (y 1 + (y 2 + (y 3 + (y 4 + (y 5 + (y 6 + (y 7 + (y 8 + (y 9 + (y 10 + (y 11 + (y 12 + (y 13 + (y 14 + y 15))))))))))))))
    = (y 0 + y 4 + y 8 + y 12) + ((y 1 + y 5 + y 9 + y 13) + ((y 2 + y 6 + y 10 + y 14) + (y 3 + y 7 + y 11 + y 15)))
  ac_rfl

/-- The first layer of a group: two of the 32 lanes count. -/
theorem sum_first (v w : Fin 16 → EReal) (a b : EReal) (s : Fin 16) :
    ∑ q : Fin 32, (if h : q.val < 16 then v ⟨q.val, h⟩ else w ⟨q.val - 16, by omega⟩)
        * ((if q.val = s.val then 1 else 0) * a + (if q.val = 16 + s.val then 1 else 0) * b)
      = v s * a + w s * b := by
  rw [show (∑ q : Fin 32, (if h : q.val < 16 then v ⟨q.val, h⟩ else w ⟨q.val - 16, by omega⟩)
        * ((if q.val = s.val then 1 else 0) * a + (if q.val = 16 + s.val then 1 else 0) * b)) = _ from
      Fin.sum_univ_add (a := 16) (b := 16) _]
  congr 1
  · rw [Finset.sum_eq_single s]
    · rw [dif_pos (by simp)]
      simp [show ¬ s.val = 16 + s.val by omega]
    · intro k _ hk
      have hk' : ¬ k.val = s.val := fun h => hk (Fin.ext h)
      simp [hk', show ¬ k.val = 16 + s.val by omega]
    · intro h; exact absurd (Finset.mem_univ _) h
  · rw [Finset.sum_eq_single s]
    · rw [dif_neg (by simp)]
      simp [show s.val + 16 = 16 + s.val by omega]
    · intro k _ hk
      have hk' : ¬ k.val = s.val := fun h => hk (Fin.ext h)
      simp [show ¬ k.val + 16 = s.val by omega, show ¬ k.val + 16 = 16 + s.val by omega]
    · intro h; exact absurd (Finset.mem_univ _) h

end Cert.Collapse

end
-- ==== Proof.Group.lean ====
module

public import proofs.«01_k».proof.Proof.Block
public import proofs.«01_k».proof.Proof.HostValue
public import proofs.«01_k».proof.Proof.Bits
public import proofs.«01_k».proof.Proof.Collapse

@[expose] public section

set_option maxRecDepth 16384

noncomputable section

/-! Four slots packed in one row of lanes: every lane of the packed network is one lane of one slot's network. -/

namespace Cert.Group

open Idealize.ShloMosaic Cert.KernelIdeal Cert.Spec Cert.Block Cert.HostTerm Cert.HostValue Cert.Bits Cert.Collapse

/-- A slot's two features. -/
def slot (ve va : EReal) (k : Fin 2) : EReal := if k.val < 1 then ve else va

/-- The four dense layers on one slot. -/
def node (wa : FVec Ideal S2x32 .f32) (ba : FVec Ideal S32 .f32) (w1 : FVec Ideal S32x32 .f32) (b1 : FVec Ideal S32 .f32)
    (w2 : FVec Ideal S32x32 .f32) (b2 : FVec Ideal S32 .f32) (w3 : FVec Ideal S32x16 .f32) (b3 : FVec Ideal S16 .f32)
    (ve va : EReal) : Fin 16 → EReal :=
  layer (fun k e => w3 (ix2 k e)) (fun e => b3 (ix1 e))
    (layer (fun k e => w2 (ix2 k e)) (fun e => b2 (ix1 e))
      (layer (fun k e => w1 (ix2 k e)) (fun e => b1 (ix1 e))
        (layer (fun k e => wa (ix2 k e)) (fun e => ba (ix1 e)) (slot ve va))))

/-- The first layer of a group, as weights placed at four slots. -/
theorem g32_val (wa : FVec Ideal S2x32 .f32) (g : Fin 4) (q : Fin 32) (d : Fin 128) :
    g32 wa (ix3 g q d)
      = (if q.val = 4 * g.val + d.val / 32 then 1 else 0) * wa (ix2 0 ⟨d.val % 32, by omega⟩)
        + (if q.val = 16 + (4 * g.val + d.val / 32) then 1 else 0) * wa (ix2 1 ⟨d.val % 32, by omega⟩) :=
  (g32_apply wa g q d).trans
    (congrArg₂ (· + ·) (congrArg (· * wa (ix2 0 ⟨d.val % 32, by omega⟩)) (lit0_apply g q d))
      (congrArg (· * wa (ix2 1 ⟨d.val % 32, by omega⟩)) (lit1_apply g q d)))

/-- A middle layer of a group, as a block-diagonal matrix. -/
theorem diag32_val (w : FVec Ideal S32x32 .f32) (d e : Fin 128) :
    diag32 w (ix2 d e)
      = w (ix2 ⟨d.val % 32, by omega⟩ ⟨e.val % 32, by omega⟩) * (if d.val / 32 = e.val / 32 then 1 else 0) :=
  (diag32_apply w d e).trans (congrArg (w (ix2 ⟨d.val % 32, by omega⟩ ⟨e.val % 32, by omega⟩) * ·) (lit2_apply d e))

/-- The last layer of a group, as a block-diagonal matrix. -/
theorem diag16_val (w : FVec Ideal S32x16 .f32) (d : Fin 128) (e : Fin 64) :
    diag16 w (ix2 d e)
      = w (ix2 ⟨d.val % 32, by omega⟩ ⟨e.val % 16, by omega⟩) * (if d.val / 32 = e.val / 16 then 1 else 0) :=
  (diag16_apply w d e).trans (congrArg (w (ix2 ⟨d.val % 32, by omega⟩ ⟨e.val % 16, by omega⟩) * ·) (lit3_apply d e))

/-- The matrix that moves a group into the last 16 columns. -/
theorem place_val (c : Fin 64) (j : Fin 128) : place (ix2 c j) = if j.val = 112 + c.val % 16 then 1 else 0 :=
  (place_apply c j).trans (lit4_apply c j)

/-- The packed first layer. -/
theorem first_eq (v w : Vec Ideal S4000x16 .f32) (wa : FVec Ideal S2x32 .f32) (ba : FVec Ideal S32 .f32) (g : Fin 4)
    (r : Fin 4000) (d : Fin 128) :
    layer (fun q d => g32 wa (ix3 g q d)) (fun d => tile32 ba (ix2 0 d)) (catRow v w r) d
      = layer (fun k e => wa (ix2 k e)) (fun e => ba (ix1 e))
          (slot (v (ix2 r ⟨4 * g.val + d.val / 32, by omega⟩)) (w (ix2 r ⟨4 * g.val + d.val / 32, by omega⟩)))
          ⟨d.val % 32, by omega⟩ := by
  have h := sum_first (fun q => v (ix2 r q)) (fun q => w (ix2 r q)) (wa (ix2 0 ⟨d.val % 32, by omega⟩))
    (wa (ix2 1 ⟨d.val % 32, by omega⟩)) ⟨4 * g.val + d.val / 32, by omega⟩
  unfold layer
  simp only [g32_val, tile32_apply]
  refine congrArg (fun s => max (s + ba (ix1 ⟨d.val % 32, by omega⟩)) 0) (h.trans ?_)
  rw [Fin.sum_univ_two]
  rfl

/-- A packed middle layer. -/
theorem middle_eq (w1 : FVec Ideal S32x32 .f32) (b1 : FVec Ideal S32 .f32) (x : Fin 128 → EReal) (c : Fin 128) :
    layer (fun d c => diag32 w1 (ix2 d c)) (fun c => tile32 b1 (ix2 0 c)) x c
      = layer (fun k e => w1 (ix2 k e)) (fun e => b1 (ix1 e)) (fun k => x ⟨32 * (c.val / 32) + k.val, by omega⟩)
          ⟨c.val % 32, by omega⟩ := by
  have h := sum_block x (fun k => w1 (ix2 k ⟨c.val % 32, by omega⟩)) ⟨c.val / 32, by omega⟩
  unfold layer
  simp only [diag32_val, tile32_apply]
  exact congrArg (fun s => max (s + b1 (ix1 ⟨c.val % 32, by omega⟩)) 0) h

/-- The packed last layer. -/
theorem last_eq (w3 : FVec Ideal S32x16 .f32) (b3 : FVec Ideal S16 .f32) (x : Fin 128 → EReal) (c : Fin 64) :
    layer (fun d c => diag16 w3 (ix2 d c)) (fun c => tile16 b3 (ix2 0 c)) x c
      = layer (fun k e => w3 (ix2 k e)) (fun e => b3 (ix1 e)) (fun k => x ⟨32 * (c.val / 16) + k.val, by omega⟩)
          ⟨c.val % 16, by omega⟩ := by
  have h := sum_block x (fun k => w3 (ix2 k ⟨c.val % 16, by omega⟩)) ⟨c.val / 16, by omega⟩
  unfold layer
  simp only [diag16_val, tile16_apply]
  exact congrArg (fun s => max (s + b3 (ix1 ⟨c.val % 16, by omega⟩)) 0) h

/-- Lane `c` of group `g` is output `c % 16` of slot `4 g + c / 16`. -/
theorem groupRow_eq (v w : Vec Ideal S4000x16 .f32) (wa : FVec Ideal S2x32 .f32) (ba : FVec Ideal S32 .f32)
    (w1 : FVec Ideal S32x32 .f32) (b1 : FVec Ideal S32 .f32) (w2 : FVec Ideal S32x32 .f32) (b2 : FVec Ideal S32 .f32)
    (w3 : FVec Ideal S32x16 .f32) (b3 : FVec Ideal S16 .f32) (g : Fin 4) (r : Fin 4000) (c : Fin 64) :
    groupRow v w (g32 wa) (tile32 ba) (diag32 w1) (tile32 b1) (diag32 w2) (tile32 b2) (diag16 w3) (tile16 b3) g r c
      = node wa ba w1 b1 w2 b2 w3 b3 (v (ix2 r ⟨4 * g.val + c.val / 16, by omega⟩))
          (w (ix2 r ⟨4 * g.val + c.val / 16, by omega⟩)) ⟨c.val % 16, by omega⟩ := by
  unfold groupRow node
  rw [last_eq]
  refine layer_congr (fun _ => rfl) rfl fun k => ?_
  rw [middle_eq]
  have e1 : ∀ k : Fin 32, (32 * (c.val / 16) + k.val) / 32 = c.val / 16 := fun k => by omega
  have e2 : ∀ k : Fin 32, (32 * (c.val / 16) + k.val) % 32 = k.val := fun k => by omega
  simp only [e1, e2]
  refine layer_congr (fun _ => rfl) rfl fun k => ?_
  rw [middle_eq]
  simp only [e1, e2]
  refine layer_congr (fun _ => rfl) rfl fun k => ?_
  rw [first_eq]
  simp only [e1, e2]

/-- The lanes of all groups, added into output column `112 + p`, are the sum of output `p` over the 16 slots. -/
theorem placed_eq (v w : Vec Ideal S4000x16 .f32) (wa : FVec Ideal S2x32 .f32) (ba : FVec Ideal S32 .f32)
    (w1 : FVec Ideal S32x32 .f32) (b1 : FVec Ideal S32 .f32) (w2 : FVec Ideal S32x32 .f32) (b2 : FVec Ideal S32 .f32)
    (w3 : FVec Ideal S32x16 .f32) (b3 : FVec Ideal S16 .f32) (r : Fin 4000) (j : Fin 128) :
    (∑ c : Fin 64, (groupRow v w (g32 wa) (tile32 ba) (diag32 w1) (tile32 b1) (diag32 w2) (tile32 b2) (diag16 w3) (tile16 b3) 0 r c
        + groupRow v w (g32 wa) (tile32 ba) (diag32 w1) (tile32 b1) (diag32 w2) (tile32 b2) (diag16 w3) (tile16 b3) 1 r c
        + groupRow v w (g32 wa) (tile32 ba) (diag32 w1) (tile32 b1) (diag32 w2) (tile32 b2) (diag16 w3) (tile16 b3) 2 r c
        + groupRow v w (g32 wa) (tile32 ba) (diag32 w1) (tile32 b1) (diag32 w2) (tile32 b2) (diag16 w3) (tile16 b3) 3 r c)
          * place (ix2 c j))
      = if h : j.val < 112 then 0
        else ∑ k : Fin 16, node wa ba w1 b1 w2 b2 w3 b3 (v (ix2 r k)) (w (ix2 r k)) ⟨j.val - 112, by omega⟩ := by
  simp only [groupRow_eq, place_val]
  by_cases h : j.val < 112
  · rw [dif_pos h]
    refine Finset.sum_eq_zero fun c _ => ?_
    rw [if_neg (by omega), mul_zero]
  · rw [dif_neg h, sum_slots]
    have hc : ∀ c : Fin 64, (j.val = 112 + c.val % 16) = (c.val % 16 = (⟨j.val - 112, by omega⟩ : Fin 16).val) := fun c => by
      simp only [eq_iff_iff]; omega
    simp only [hc]
    refine (sum_place _ ⟨j.val - 112, by omega⟩).trans ?_
    refine Finset.sum_congr rfl fun a _ => ?_
    have e1 : (16 * a.val + (j.val - 112)) / 16 = a.val := by omega
    have e2 : (16 * a.val + (j.val - 112)) % 16 = j.val - 112 := by omega
    simp only [e1, e2]
    simp

end Cert.Group

end
-- ==== Proof.HostRead.lean ====
module

public import proofs.«01_k».proof.Proof.HostTerm

@[expose] public section

set_option maxRecDepth 16384

noncomputable section

/-! The kernel's launch finds each window's array at the term HostTerm.lean gives it. -/

namespace Cert.HostRead

open Idealize.ShloMosaic Idealize.ShloMosaic.TcCoe Cert.KernelIdeal Cert.KernelIdeal.Gen Cert.HostTerm

variable (m : (ℓ : Loc nD τ sig) → Buf (Elt Ideal) ℓ)

/-- The host value `v45` that the call reads, as a term of the arguments. -/
theorem upto_v45 (c : Dev nD) : StableHlo.upto [hostOps0, hostOps0_1, hostOps0_2, hostOps0_3, hostOps0_4].flatten (fun b => m (c, b)) 59 (Proc.devRef .tc main_v45)
    = row (diff (m ((c : Thread nD τ).loc main_arg6)) slices_S119x128_S1x128_1_0 slices_S119x128_S1x128_0_0) := by
  after_reads_simp
  rfl

/-- The host value `v46` that the call reads, as a term of the arguments. -/
theorem upto_v46 (c : Dev nD) : StableHlo.upto [hostOps0, hostOps0_1, hostOps0_2, hostOps0_3, hostOps0_4].flatten (fun b => m (c, b)) 59 (Proc.devRef .tc main_v46)
    = row (diff (m ((c : Thread nD τ).loc main_arg7)) slices_S4x128_S1x128_1_0 slices_S4x128_S1x128_0_0) := by
  after_reads_simp
  rfl

/-- The host value `v47` that the call reads, as a term of the arguments. -/
theorem upto_v47 (c : Dev nD) : StableHlo.upto [hostOps0, hostOps0_1, hostOps0_2, hostOps0_3, hostOps0_4].flatten (fun b => m (c, b)) 59 (Proc.devRef .tc main_v47)
    = row (diff (m ((c : Thread nD τ).loc main_arg8)) slices_S12x128_S1x128_1_0 slices_S12x128_S1x128_0_0) := by
  after_reads_simp
  rfl

/-- The host value `v48` that the call reads, as a term of the arguments. -/
theorem upto_v48 (c : Dev nD) : StableHlo.upto [hostOps0, hostOps0_1, hostOps0_2, hostOps0_3, hostOps0_4].flatten (fun b => m (c, b)) 59 (Proc.devRef .tc main_v48)
    = row (diff (m ((c : Thread nD τ).loc main_arg9)) slices_S12x128_S1x128_1_0 slices_S12x128_S1x128_0_0) := by
  after_reads_simp
  rfl

/-- The host value `v49` that the call reads, as a term of the arguments. -/
theorem upto_v49 (c : Dev nD) : StableHlo.upto [hostOps0, hostOps0_1, hostOps0_2, hostOps0_3, hostOps0_4].flatten (fun b => m (c, b)) 59 (Proc.devRef .tc main_v49)
    = row (diff (m ((c : Thread nD τ).loc main_arg10)) slices_S10x128_S1x128_1_0 slices_S10x128_S1x128_0_0) := by
  after_reads_simp
  rfl

/-- The host value `v50` that the call reads, as a term of the arguments. -/
theorem upto_v50 (c : Dev nD) : StableHlo.upto [hostOps0, hostOps0_1, hostOps0_2, hostOps0_3, hostOps0_4].flatten (fun b => m (c, b)) 59 (Proc.devRef .tc main_v50)
    = row (diff (m ((c : Thread nD τ).loc main_arg11)) slices_S6x128_S1x128_1_0 slices_S6x128_S1x128_0_0) := by
  after_reads_simp
  rfl

/-- The host value `v51` that the call reads, as a term of the arguments. -/
theorem upto_v51 (c : Dev nD) : StableHlo.upto [hostOps0, hostOps0_1, hostOps0_2, hostOps0_3, hostOps0_4].flatten (fun b => m (c, b)) 59 (Proc.devRef .tc main_v51)
    = row (diff (m ((c : Thread nD τ).loc main_arg12)) slices_S6x128_S1x128_1_0 slices_S6x128_S1x128_0_0) := by
  after_reads_simp
  rfl

/-- The host value `v52` that the call reads, as a term of the arguments. -/
theorem upto_v52 (c : Dev nD) : StableHlo.upto [hostOps0, hostOps0_1, hostOps0_2, hostOps0_3, hostOps0_4].flatten (fun b => m (c, b)) 59 (Proc.devRef .tc main_v52)
    = row (diff (m ((c : Thread nD τ).loc main_arg13)) slices_S2x128_S1x128_1_0 slices_S2x128_S1x128_0_0) := by
  after_reads_simp
  rfl

/-- The host value `v53` that the call reads, as a term of the arguments. -/
theorem upto_v53 (c : Dev nD) : StableHlo.upto [hostOps0, hostOps0_1, hostOps0_2, hostOps0_3, hostOps0_4].flatten (fun b => m (c, b)) 59 (Proc.devRef .tc main_v53)
    = row (diff (m ((c : Thread nD τ).loc main_arg14)) slices_S2x128_S1x128_1_0 slices_S2x128_S1x128_0_0) := by
  after_reads_simp
  rfl

/-- The host value `v70` that the call reads, as a term of the arguments. -/
theorem upto_v70 (c : Dev nD) : StableHlo.upto [hostOps0, hostOps0_1, hostOps0_2, hostOps0_3, hostOps0_4].flatten (fun b => m (c, b)) 78 (Proc.devRef .tc main_v70)
    = row (diff (m ((c : Thread nD τ).loc main_arg3)) slices_S5x128_S1x128_1_0 slices_S5x128_S1x128_0_0) := by
  after_reads_simp
  rfl

/-- The host value `v71` that the call reads, as a term of the arguments. -/
theorem upto_v71 (c : Dev nD) : StableHlo.upto [hostOps0, hostOps0_1, hostOps0_2, hostOps0_3, hostOps0_4].flatten (fun b => m (c, b)) 78 (Proc.devRef .tc main_v71)
    = row (diff (m ((c : Thread nD τ).loc main_arg4)) slices_S6x128_S1x128_1_0 slices_S6x128_S1x128_0_0) := by
  after_reads_simp
  rfl

/-- The host value `v72` that the call reads, as a term of the arguments. -/
theorem upto_v72 (c : Dev nD) : StableHlo.upto [hostOps0, hostOps0_1, hostOps0_2, hostOps0_3, hostOps0_4].flatten (fun b => m (c, b)) 78 (Proc.devRef .tc main_v72)
    = row (diff (m ((c : Thread nD τ).loc main_arg5)) slices_S3x128_S1x128_1_0 slices_S3x128_S1x128_0_0) := by
  after_reads_simp
  rfl

/-- The host value `v54` that the call reads, as a term of the arguments. -/
theorem upto_v54a (c : Dev nD) : StableHlo.upto [hostOps0, hostOps0_1, hostOps0_2, hostOps0_3, hostOps0_4].flatten (fun b => m (c, b)) 79 (Proc.devRef .tc main_v54) = atomDiff (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  after_reads_simp
  dsimp only [Matrix.cons_val]
  rw [upto_v45, upto_v46, upto_v47, upto_v48, upto_v49, upto_v50, upto_v51, upto_v52, upto_v53]
  rfl

/-- The host value `v54` that the call reads, as a term of the arguments. -/
theorem upto_v54b (c : Dev nD) : StableHlo.upto [hostOps0, hostOps0_1, hostOps0_2, hostOps0_3, hostOps0_4].flatten (fun b => m (c, b)) 80 (Proc.devRef .tc main_v54) = atomDiff (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  after_reads_simp
  dsimp only [Matrix.cons_val]
  rw [upto_v45, upto_v46, upto_v47, upto_v48, upto_v49, upto_v50, upto_v51, upto_v52, upto_v53]
  rfl

/-- The host value `v73` that the call reads, as a term of the arguments. -/
theorem upto_v73 (c : Dev nD) : StableHlo.upto [hostOps0, hostOps0_1, hostOps0_2, hostOps0_3, hostOps0_4].flatten (fun b => m (c, b)) 80 (Proc.devRef .tc main_v73) = bondDiff (m ((c : Thread nD τ).loc main_arg3)) (m ((c : Thread nD τ).loc main_arg4)) (m ((c : Thread nD τ).loc main_arg5)) := by
  after_reads_simp
  dsimp only [Matrix.cons_val]
  rw [upto_v70, upto_v71, upto_v72]
  rfl

/-- The host value `v74` that the call reads, as a term of the arguments. -/
theorem upto_v74 (c : Dev nD) : StableHlo.upto [hostOps0, hostOps0_1, hostOps0_2, hostOps0_3, hostOps0_4].flatten (fun b => m (c, b)) 80 (Proc.devRef .tc main_v74) = Host.negf (atomDiff (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  after_reads_simp
  dsimp only [Matrix.cons_val]
  rw [upto_v45, upto_v46, upto_v47, upto_v48, upto_v49, upto_v50, upto_v51, upto_v52, upto_v53]
  rfl

/-- At the launch: the folded table. -/
theorem V_wemb (c : Dev nD) : V m c main_v85 = wemb (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg23)) := by
  unfold_abbrev_sides
  after_reads_simp
  dsimp only [Matrix.cons_val]
  rw [upto_v73, upto_v74, upto_v54b]
  rfl

/-- At the launch: the folded bias. -/
theorem V_bias (c : Dev nD) : V m c main_v89 = bias (m ((c : Thread nD τ).loc main_arg3)) (m ((c : Thread nD τ).loc main_arg4)) (m ((c : Thread nD τ).loc main_arg5)) (m ((c : Thread nD τ).loc main_arg23)) (m ((c : Thread nD τ).loc main_arg24)) := by
  unfold_abbrev_sides
  after_reads_simp
  rfl

/-- At the launch: the first-layer matrices. -/
theorem V_g32 (c : Dev nD) : V m c main_v103 = g32 (m ((c : Thread nD τ).loc main_arg15)) := by
  unfold_abbrev_sides
  after_reads_simp
  rfl

/-- At the launch: the first bias. -/
theorem V_ba (c : Dev nD) : V m c main_v107 = tile32 (m ((c : Thread nD τ).loc main_arg16)) := by
  unfold_abbrev_sides
  after_reads_simp
  rfl

/-- At the launch: the second layer's weights. -/
theorem V_w1 (c : Dev nD) : V m c main_v111 = diag32 (m ((c : Thread nD τ).loc main_arg17)) := by
  unfold_abbrev_sides
  after_reads_simp
  rfl

/-- At the launch: the second bias. -/
theorem V_b1 (c : Dev nD) : V m c main_v115 = tile32 (m ((c : Thread nD τ).loc main_arg18)) := by
  unfold_abbrev_sides
  after_reads_simp
  rfl

/-- At the launch: the third layer's weights. -/
theorem V_w2 (c : Dev nD) : V m c main_v119 = diag32 (m ((c : Thread nD τ).loc main_arg19)) := by
  unfold_abbrev_sides
  after_reads_simp
  rfl

/-- At the launch: the third bias. -/
theorem V_b2 (c : Dev nD) : V m c main_v123 = tile32 (m ((c : Thread nD τ).loc main_arg20)) := by
  unfold_abbrev_sides
  after_reads_simp
  rfl

/-- At the launch: the last layer's weights. -/
theorem V_w3 (c : Dev nD) : V m c main_v127 = diag16 (m ((c : Thread nD τ).loc main_arg21)) := by
  unfold_abbrev_sides
  after_reads_simp
  rfl

/-- At the launch: the last bias. -/
theorem V_b3 (c : Dev nD) : V m c main_v131 = tile16 (m ((c : Thread nD τ).loc main_arg22)) := by
  unfold_abbrev_sides
  after_reads_simp
  rfl

/-- At the launch: the placing matrix. -/
theorem V_place (c : Dev nD) : V m c main_cst_3 = place := by
  unfold_abbrev_sides
  after_reads_simp
  rfl

/-- At the launch: the eigenvalues without their unit axis. -/
theorem V_val (c : Dev nD) : V m c main_v132
    = shapeCast S100000x16 (m ((c : Thread nD τ).loc main_arg1) : FVec Ideal S100000x16x1 .f32) shapeCasts_S100000x16x1_S100000x16 := by
  unfold_abbrev_sides
  after_reads_simp
  rfl

end Cert.HostRead

end
-- ==== Proof.KernelArray.lean ====
module

public import proofs.«01_k».proof.Proof.Group
public import proofs.«01_k».proof.Proof.HostRead
public import proofs.«01_k».proof.Proof.Gen.KernelIdeal.Value

@[expose] public section

set_option maxRecDepth 16384

noncomputable section

/-! The kernel's array after the run, at an index. -/

namespace Cert.KernelArray

open Idealize.ShloMosaic Idealize.ShloMosaic.TcCoe Cert.KernelIdeal Cert.KernelIdeal.Gen Cert.HostTerm Cert.HostRead Cert.Group

variable (m : (ℓ : Loc nD τ sig) → Buf (Elt Ideal) ℓ)

/-- The block index of window 0 at a grid step. -/
theorem index0 : ∀ t : Fin cfg0.N, win0_0.index t 0 = t.val ∧ win0_0.index t 1 = 0 :=
  (by decide +kernel : ∀ t : Fin grid0.N, win0_0.index t 0 = t.val ∧ win0_0.index t 1 = 0)

/-- Where an entry of the block of window 0 lies in its array. -/
theorem emb0 (t : Fin cfg0.N) (ht : t.val < 25) (r : Fin 4000) (k : Fin 21) :
    ((cfg0.win 0).blk t).view.emb (ix2 r k) = (ix2 ⟨4000 * t.val + r.val, by omega⟩ k : S100000x21.Idx) := by
  have hi := index0 t
  funext (a : Fin 2)
  apply Fin.ext
  match a with
  | ⟨0, _⟩ => show win0_0.index t 0 * 4000 + 1 * r.val = 4000 * t.val + r.val; rw [hi.1]; omega
  | ⟨1, _⟩ => show win0_0.index t 1 * 21 + 1 * k.val = k.val; rw [hi.2]; omega

/-- The block index of window 1 at a grid step. -/
theorem index1 : ∀ t : Fin cfg0.N, win0_1.index t 0 = t.val ∧ win0_1.index t 1 = 0 :=
  (by decide +kernel : ∀ t : Fin grid0.N, win0_1.index t 0 = t.val ∧ win0_1.index t 1 = 0)

/-- Where an entry of the block of window 1 lies in its array. -/
theorem emb1 (t : Fin cfg0.N) (ht : t.val < 25) (r : Fin 4000) (k : Fin 16) :
    ((cfg0.win 1).blk t).view.emb (ix2 r k) = (ix2 ⟨4000 * t.val + r.val, by omega⟩ k : S100000x16.Idx) := by
  have hi := index1 t
  funext (a : Fin 2)
  apply Fin.ext
  match a with
  | ⟨0, _⟩ => show win0_1.index t 0 * 4000 + 1 * r.val = 4000 * t.val + r.val; rw [hi.1]; omega
  | ⟨1, _⟩ => show win0_1.index t 1 * 16 + 1 * k.val = k.val; rw [hi.2]; omega

/-- The block index of window 2 at a grid step. -/
theorem index2 : ∀ t : Fin cfg0.N, win0_2.index t 0 = t.val ∧ win0_2.index t 1 = 0 :=
  (by decide +kernel : ∀ t : Fin grid0.N, win0_2.index t 0 = t.val ∧ win0_2.index t 1 = 0)

/-- Where an entry of the block of window 2 lies in its array. -/
theorem emb2 (t : Fin cfg0.N) (ht : t.val < 25) (r : Fin 4000) (k : Fin 16) :
    ((cfg0.win 2).blk t).view.emb (ix2 r k) = (ix2 ⟨4000 * t.val + r.val, by omega⟩ k : S100000x16.Idx) := by
  have hi := index2 t
  funext (a : Fin 2)
  apply Fin.ext
  match a with
  | ⟨0, _⟩ => show win0_2.index t 0 * 4000 + 1 * r.val = 4000 * t.val + r.val; rw [hi.1]; omega
  | ⟨1, _⟩ => show win0_2.index t 1 * 16 + 1 * k.val = k.val; rw [hi.2]; omega

/-- The block index of window 14 at a grid step. -/
theorem index14 : ∀ t : Fin cfg0.N, win0_14.index t 0 = t.val ∧ win0_14.index t 1 = 0 :=
  (by decide +kernel : ∀ t : Fin grid0.N, win0_14.index t 0 = t.val ∧ win0_14.index t 1 = 0)

/-- Where an entry of the block of window 14 lies in its array. -/
theorem emb14 (t : Fin cfg0.N) (ht : t.val < 25) (r : Fin 4000) (k : Fin 128) :
    ((cfg0.win 14).blk t).view.emb (ix2 r k) = (ix2 ⟨4000 * t.val + r.val, by omega⟩ k : S100000x128.Idx) := by
  have hi := index14 t
  funext (a : Fin 2)
  apply Fin.ext
  match a with
  | ⟨0, _⟩ => show win0_14.index t 0 * 4000 + 1 * r.val = 4000 * t.val + r.val; rw [hi.1]; omega
  | ⟨1, _⟩ => show win0_14.index t 1 * 128 + 1 * k.val = k.val; rw [hi.2]; omega

/-- The block that window 0 reads at a grid step, at an index of its array. -/
theorem iblk0 (c : Dev nD) (t : Fin cfg0.N) (ht : t.val < 25) (r : Fin 4000) (k : Fin 21) :
    (iblk m c 0 t : Vec Ideal S4000x21 .i32) (ix2 r k) = V m c main_arg0 (ix2 ⟨4000 * t.val + r.val, by omega⟩ k : S100000x21.Idx) := by
  show V m c main_arg0 (((cfg0.win 0).blk t).view.emb (ix2 r k)) = _
  rw [emb0 t ht]

/-- The block that window 1 reads at a grid step, at an index of its array. -/
theorem iblk1 (c : Dev nD) (t : Fin cfg0.N) (ht : t.val < 25) (r : Fin 4000) (k : Fin 16) :
    (iblk m c 1 t : Vec Ideal S4000x16 .f32) (ix2 r k) = V m c main_arg2 (ix2 ⟨4000 * t.val + r.val, by omega⟩ k : S100000x16.Idx) := by
  show V m c main_arg2 (((cfg0.win 1).blk t).view.emb (ix2 r k)) = _
  rw [emb1 t ht]

/-- The block that window 2 reads at a grid step, at an index of its array. -/
theorem iblk2 (c : Dev nD) (t : Fin cfg0.N) (ht : t.val < 25) (r : Fin 4000) (k : Fin 16) :
    (iblk m c 2 t : Vec Ideal S4000x16 .f32) (ix2 r k) = V m c main_v132 (ix2 ⟨4000 * t.val + r.val, by omega⟩ k : S100000x16.Idx) := by
  show V m c main_v132 (((cfg0.win 2).blk t).view.emb (ix2 r k)) = _
  rw [emb2 t ht]

/-- The block index of window 3 at a grid step. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block that window 3 reads at any grid step is its whole array. -/
theorem iblk3 (c : Dev nD) (t : Fin cfg0.N) : (iblk m c 3 t : Vec Ideal S21x128 .f32) = V m c main_v85 := by
  have hi := index3 t
  funext y
  show V m c main_v85 (((cfg0.win 3).blk t).view.emb y) = _
  refine congrArg (V m c main_v85) ?_
  funext (a : Fin 2)
  apply Fin.ext
  match a with
  | ⟨0, _⟩ => show win0_3.index t 0 * 21 + 1 * (y 0).val = (y 0).val; rw [hi.1]; omega
  | ⟨1, _⟩ => show win0_3.index t 1 * 128 + 1 * (y 1).val = (y 1).val; rw [hi.2]; omega

/-- The block index of window 4 at a grid step. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block that window 4 reads at any grid step is its whole array. -/
theorem iblk4 (c : Dev nD) (t : Fin cfg0.N) : (iblk m c 4 t : Vec Ideal S1x128 .f32) = V m c main_v89 := by
  have hi := index4 t
  funext y
  show V m c main_v89 (((cfg0.win 4).blk t).view.emb y) = _
  refine congrArg (V m c main_v89) ?_
  funext (a : Fin 2)
  apply Fin.ext
  match a with
  | ⟨0, _⟩ => show win0_4.index t 0 * 1 + 1 * (y 0).val = (y 0).val; rw [hi.1]; omega
  | ⟨1, _⟩ => show win0_4.index t 1 * 128 + 1 * (y 1).val = (y 1).val; rw [hi.2]; omega

/-- The block index of window 5 at a grid step. -/
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- The block that window 5 reads at any grid step is its whole array. -/
theorem iblk5 (c : Dev nD) (t : Fin cfg0.N) : (iblk m c 5 t : Vec Ideal S4x32x128 .f32) = V m c main_v103 := by
  have hi := index5 t
  funext y
  show V m c main_v103 (((cfg0.win 5).blk t).view.emb y) = _
  refine congrArg (V m c main_v103) ?_
  funext (a : Fin 3)
  apply Fin.ext
  match a with
  | ⟨0, _⟩ => show win0_5.index t 0 * 4 + 1 * (y 0).val = (y 0).val; rw [hi.1]; omega
  | ⟨1, _⟩ => show win0_5.index t 1 * 32 + 1 * (y 1).val = (y 1).val; rw [hi.2.1]; omega
  | ⟨2, _⟩ => show win0_5.index t 2 * 128 + 1 * (y 2).val = (y 2).val; rw [hi.2.2]; omega

/-- The block index of window 6 at a grid step. -/
theorem index6 : ∀ t : Fin cfg0.N, win0_6.index t 0 = 0 ∧ win0_6.index t 1 = 0 :=
  (by decide +kernel : ∀ t : Fin grid0.N, win0_6.index t 0 = 0 ∧ win0_6.index t 1 = 0)

/-- The block that window 6 reads at any grid step is its whole array. -/
theorem iblk6 (c : Dev nD) (t : Fin cfg0.N) : (iblk m c 6 t : Vec Ideal S1x128 .f32) = V m c main_v107 := by
  have hi := index6 t
  funext y
  show V m c main_v107 (((cfg0.win 6).blk t).view.emb y) = _
  refine congrArg (V m c main_v107) ?_
  funext (a : Fin 2)
  apply Fin.ext
  match a with
  | ⟨0, _⟩ => show win0_6.index t 0 * 1 + 1 * (y 0).val = (y 0).val; rw [hi.1]; omega
  | ⟨1, _⟩ => show win0_6.index t 1 * 128 + 1 * (y 1).val = (y 1).val; rw [hi.2]; omega

/-- The block index of window 7 at a grid step. -/
theorem index7 : ∀ t : Fin cfg0.N, win0_7.index t 0 = 0 ∧ win0_7.index t 1 = 0 :=
  (by decide +kernel : ∀ t : Fin grid0.N, win0_7.index t 0 = 0 ∧ win0_7.index t 1 = 0)

/-- The block that window 7 reads at any grid step is its whole array. -/
theorem iblk7 (c : Dev nD) (t : Fin cfg0.N) : (iblk m c 7 t : Vec Ideal S128x128 .f32) = V m c main_v111 := by
  have hi := index7 t
  funext y
  show V m c main_v111 (((cfg0.win 7).blk t).view.emb y) = _
  refine congrArg (V m c main_v111) ?_
  funext (a : Fin 2)
  apply Fin.ext
  match a with
  | ⟨0, _⟩ => show win0_7.index t 0 * 128 + 1 * (y 0).val = (y 0).val; rw [hi.1]; omega
  | ⟨1, _⟩ => show win0_7.index t 1 * 128 + 1 * (y 1).val = (y 1).val; rw [hi.2]; omega

/-- The block index of window 8 at a grid step. -/
theorem index8 : ∀ t : Fin cfg0.N, win0_8.index t 0 = 0 ∧ win0_8.index t 1 = 0 :=
  (by decide +kernel : ∀ t : Fin grid0.N, win0_8.index t 0 = 0 ∧ win0_8.index t 1 = 0)

/-- The block that window 8 reads at any grid step is its whole array. -/
theorem iblk8 (c : Dev nD) (t : Fin cfg0.N) : (iblk m c 8 t : Vec Ideal S1x128 .f32) = V m c main_v115 := by
  have hi := index8 t
  funext y
  show V m c main_v115 (((cfg0.win 8).blk t).view.emb y) = _
  refine congrArg (V m c main_v115) ?_
  funext (a : Fin 2)
  apply Fin.ext
  match a with
  | ⟨0, _⟩ => show win0_8.index t 0 * 1 + 1 * (y 0).val = (y 0).val; rw [hi.1]; omega
  | ⟨1, _⟩ => show win0_8.index t 1 * 128 + 1 * (y 1).val = (y 1).val; rw [hi.2]; omega

/-- The block index of window 9 at a grid step. -/
theorem index9 : ∀ t : Fin cfg0.N, win0_9.index t 0 = 0 ∧ win0_9.index t 1 = 0 :=
  (by decide +kernel : ∀ t : Fin grid0.N, win0_9.index t 0 = 0 ∧ win0_9.index t 1 = 0)

/-- The block that window 9 reads at any grid step is its whole array. -/
theorem iblk9 (c : Dev nD) (t : Fin cfg0.N) : (iblk m c 9 t : Vec Ideal S128x128 .f32) = V m c main_v119 := by
  have hi := index9 t
  funext y
  show V m c main_v119 (((cfg0.win 9).blk t).view.emb y) = _
  refine congrArg (V m c main_v119) ?_
  funext (a : Fin 2)
  apply Fin.ext
  match a with
  | ⟨0, _⟩ => show win0_9.index t 0 * 128 + 1 * (y 0).val = (y 0).val; rw [hi.1]; omega
  | ⟨1, _⟩ => show win0_9.index t 1 * 128 + 1 * (y 1).val = (y 1).val; rw [hi.2]; omega

/-- The block index of window 10 at a grid step. -/
theorem index10 : ∀ t : Fin cfg0.N, win0_10.index t 0 = 0 ∧ win0_10.index t 1 = 0 :=
  (by decide +kernel : ∀ t : Fin grid0.N, win0_10.index t 0 = 0 ∧ win0_10.index t 1 = 0)

/-- The block that window 10 reads at any grid step is its whole array. -/
theorem iblk10 (c : Dev nD) (t : Fin cfg0.N) : (iblk m c 10 t : Vec Ideal S1x128 .f32) = V m c main_v123 := by
  have hi := index10 t
  funext y
  show V m c main_v123 (((cfg0.win 10).blk t).view.emb y) = _
  refine congrArg (V m c main_v123) ?_
  funext (a : Fin 2)
  apply Fin.ext
  match a with
  | ⟨0, _⟩ => show win0_10.index t 0 * 1 + 1 * (y 0).val = (y 0).val; rw [hi.1]; omega
  | ⟨1, _⟩ => show win0_10.index t 1 * 128 + 1 * (y 1).val = (y 1).val; rw [hi.2]; omega

/-- The block index of window 11 at a grid step. -/
theorem index11 : ∀ t : Fin cfg0.N, win0_11.index t 0 = 0 ∧ win0_11.index t 1 = 0 :=
  (by decide +kernel : ∀ t : Fin grid0.N, win0_11.index t 0 = 0 ∧ win0_11.index t 1 = 0)

/-- The block that window 11 reads at any grid step is its whole array. -/
theorem iblk11 (c : Dev nD) (t : Fin cfg0.N) : (iblk m c 11 t : Vec Ideal S128x64 .f32) = V m c main_v127 := by
  have hi := index11 t
  funext y
  show V m c main_v127 (((cfg0.win 11).blk t).view.emb y) = _
  refine congrArg (V m c main_v127) ?_
  funext (a : Fin 2)
  apply Fin.ext
  match a with
  | ⟨0, _⟩ => show win0_11.index t 0 * 128 + 1 * (y 0).val = (y 0).val; rw [hi.1]; omega
  | ⟨1, _⟩ => show win0_11.index t 1 * 64 + 1 * (y 1).val = (y 1).val; rw [hi.2]; omega

/-- The block index of window 12 at a grid step. -/
theorem index12 : ∀ t : Fin cfg0.N, win0_12.index t 0 = 0 ∧ win0_12.index t 1 = 0 :=
  (by decide +kernel : ∀ t : Fin grid0.N, win0_12.index t 0 = 0 ∧ win0_12.index t 1 = 0)

/-- The block that window 12 reads at any grid step is its whole array. -/
theorem iblk12 (c : Dev nD) (t : Fin cfg0.N) : (iblk m c 12 t : Vec Ideal S1x64 .f32) = V m c main_v131 := by
  have hi := index12 t
  funext y
  show V m c main_v131 (((cfg0.win 12).blk t).view.emb y) = _
  refine congrArg (V m c main_v131) ?_
  funext (a : Fin 2)
  apply Fin.ext
  match a with
  | ⟨0, _⟩ => show win0_12.index t 0 * 1 + 1 * (y 0).val = (y 0).val; rw [hi.1]; omega
  | ⟨1, _⟩ => show win0_12.index t 1 * 64 + 1 * (y 1).val = (y 1).val; rw [hi.2]; omega

/-- The block index of window 13 at a grid step. -/
theorem index13 : ∀ t : Fin cfg0.N, win0_13.index t 0 = 0 ∧ win0_13.index t 1 = 0 :=
  (by decide +kernel : ∀ t : Fin grid0.N, win0_13.index t 0 = 0 ∧ win0_13.index t 1 = 0)

/-- The block that window 13 reads at any grid step is its whole array. -/
theorem iblk13 (c : Dev nD) (t : Fin cfg0.N) : (iblk m c 13 t : Vec Ideal S64x128 .f32) = V m c main_cst_3 := by
  have hi := index13 t
  funext y
  show V m c main_cst_3 (((cfg0.win 13).blk t).view.emb y) = _
  refine congrArg (V m c main_cst_3) ?_
  funext (a : Fin 2)
  apply Fin.ext
  match a with
  | ⟨0, _⟩ => show win0_13.index t 0 * 64 + 1 * (y 0).val = (y 0).val; rw [hi.1]; omega
  | ⟨1, _⟩ => show win0_13.index t 1 * 128 + 1 * (y 1).val = (y 1).val; rw [hi.2]; omega

/-- The result window is written back at every grid step. -/
theorem flush14 : ∀ t : Fin cfg0.N, (cfg0.win 14).flush t = true :=
  (by decide +kernel : ∀ t : Fin grid0.N, win0_14.flush t = true)

/-- What the kernel computes, at row `n` and column `j`: the products of the row's 21 numbers with the table differences, the
    bias, and in the last 16 columns the sum over the slots of the slot's network. -/
def kout (x : IVec S100000x21 32) (val : FVec Ideal S100000x16x1 .f32) (ev : FVec Ideal S100000x16 .f32)
    (b0 : FVec Ideal S5x128 .f32) (b1 : FVec Ideal S6x128 .f32) (b2 : FVec Ideal S3x128 .f32)
    (a0 : FVec Ideal S119x128 .f32) (a1 : FVec Ideal S4x128 .f32) (a2 : FVec Ideal S12x128 .f32) (a3 : FVec Ideal S12x128 .f32) (a4 : FVec Ideal S10x128 .f32) (a5 : FVec Ideal S6x128 .f32) (a6 : FVec Ideal S6x128 .f32) (a7 : FVec Ideal S2x128 .f32) (a8 : FVec Ideal S2x128 .f32)
    (wa : FVec Ideal S2x32 .f32) (ba : FVec Ideal S32 .f32)
    (w1 : FVec Ideal S32x32 .f32) (c1 : FVec Ideal S32 .f32) (w2 : FVec Ideal S32x32 .f32) (c2 : FVec Ideal S32 .f32)
    (w3 : FVec Ideal S32x16 .f32) (c3 : FVec Ideal S16 .f32) (wx : FVec Ideal S128x112 .f32) (bx : FVec Ideal S112 .f32)
    (n : Fin 100000) (j : Fin 128) : EReal :=
  ((∑ i : Fin 21, (FloatOps.sitofp .f32 (x (ix2 n i)) : Ideal .f32) * wemb b0 b1 b2 a0 a1 a2 a3 a4 a5 a6 a7 a8 wx (ix2 i j)) + bias b0 b1 b2 wx bx (ix2 0 j))
    + if h : j.val < 112 then 0
      else ∑ k : Fin 16, node wa ba w1 c1 w2 c2 w3 c3 (ev (ix2 n k)) (val (ix3 n k 0)) ⟨j.val - 112, by omega⟩

/-- The eigenvalues without their last axis, at an index. -/
theorem val_apply (val : FVec Ideal S100000x16x1 .f32) (n : Fin 100000) (k : Fin 16) :
    shapeCast S100000x16 val shapeCasts_S100000x16x1_S100000x16 (ix2 n k) = val (ix3 n k 0) := by
  pointwise

/-- The block of window 1, read from the argument that the array holds. -/
theorem iblk1_val (c : Dev nD) (t : Fin cfg0.N) (ht : t.val < 25) (r : Fin 4000) (k : Fin 16) :
    (iblk m c 1 t : Vec Ideal S4000x16 .f32) (ix2 r k)
      = (m ((c : Thread nD τ).loc main_arg2) : FVec Ideal S100000x16 .f32) (ix2 ⟨4000 * t.val + r.val, by omega⟩ k) :=
  (iblk1 m c t ht r k).trans (congrFun (V_main_arg2 m c) _)

/-- The block of window 2, read from the argument that the array holds. -/
theorem iblk2_val (c : Dev nD) (t : Fin cfg0.N) (ht : t.val < 25) (r : Fin 4000) (k : Fin 16) :
    (iblk m c 2 t : Vec Ideal S4000x16 .f32) (ix2 r k)
      = (m ((c : Thread nD τ).loc main_arg1) : FVec Ideal S100000x16x1 .f32) (ix3 ⟨4000 * t.val + r.val, by omega⟩ k 0) :=
  ((iblk2 m c t ht r k).trans (congrFun (V_val m c) _)).trans (val_apply _ _ _)

/-- The array after the run, at the index that grid point `t` writes at `(r, j)`. -/
theorem block_apply (c : Dev nD) (t : Fin cfg0.N) (ht : t.val < 25) (r : Fin 4000) (j : Fin 128) :
    (dats m 0 c).arrAt 14 cfg0.N (ix2 ⟨4000 * t.val + r.val, by omega⟩ j : S100000x128.Idx)
      = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) ⟨4000 * t.val + r.val, by omega⟩ j := by
  have b := congrFun (Cert.KernelIdeal.Value.blocks14 m c t (flush14 t)) (ix2 r j)
  rw [Cert.KernelIdeal.Value.flushed14] at b
  have b' : (dats m 0 c).arrAt 14 cfg0.N (((cfg0.win 14).blk t).view.emb (ix2 r j))
    = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) := b
  rw [emb14 t ht] at b'
  refine b'.trans ?_
  rw [Cert.Block.out_apply]
  rw [iblk3, iblk4, iblk5, iblk6, iblk7, iblk8, iblk9, iblk10, iblk11, iblk12, iblk13]
  rw [V_wemb, V_bias, V_g32, V_ba, V_w1, V_b1, V_w2, V_b2, V_w3, V_b3, V_place]
  rw [placed_eq]
  simp only [iblk0 m c t ht, iblk1_val m c t ht, iblk2_val m c t ht, V_main_arg0]
  unfold kout
  rfl

/-- The array after the run, at every index. -/
theorem array_apply (c : Dev nD) (n : Fin 100000) (j : Fin 128) :
    (dats m 0 c).arrAt 14 cfg0.N (ix2 n j : S100000x128.Idx) = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) n j := by
  have hN : cfg0.N = 25 := N_0
  have h := block_apply m c ⟨n.val / 4000, by omega⟩ (by show n.val / 4000 < 25; omega) ⟨n.val % 4000, by omega⟩ j
  have e : (⟨4000 * (n.val / 4000) + n.val % 4000, by omega⟩ : Fin 100000) = n := Fin.ext (by show 4000 * (n.val / 4000) + n.val % 4000 = n.val; omega)
  simpa only [e] using h

end Cert.KernelArray

end
-- ==== Proof.RefNode.lean ====
module

public import proofs.«01_k».proof.Proof.Spec
public import proofs.«01_k».proof.Proof.Gen.ReferenceIdeal.Read

@[expose] public section

set_option maxRecDepth 16384

noncomputable section

/-! The reference's network on the 16 slots of a row. -/

namespace Cert.RefNode

open Idealize.ShloMosaic Cert.ReferenceIdeal Cert.ReferenceIdeal.Gen Cert.ReferenceIdeal.Read Cert.Spec

/-- The first dense layer. -/
theorem first_apply (v : FVec Ideal S100000x16x2 .f32) (w : FVec Ideal S2x32 .f32) (b : FVec Ideal S32 .f32)
    (n : Fin 100000) (k : Fin 16) (e : Fin 32) :
    maximumf (addf (Host.dotGeneral dot_S100000x16x2_S2x32_S100000x16x32_2_0_01_1_n_n none v w)
        (broadcastInDim S100000x16x32 ![0, 1, 2] bcast_S1x1x32_S100000x16x32_0_1_2 (broadcastInDim S1x1x32 ![2] bcast_S32_S1x1x32_2 b)))
      (broadcastInDim S100000x16x32 ![] bcast_S_S100000x16x32 (constant S_ .f32 0x00000000#32)) (ix3 n k e)
      = layer (fun q e => w (ix2 q e)) (fun e => b (ix1 e)) (fun q => v (ix3 n k q)) e := by
  pointwise [layer]

/-- A middle dense layer. -/
theorem middle_apply (v : FVec Ideal S100000x16x32 .f32) (w : FVec Ideal S32x32 .f32) (b : FVec Ideal S32 .f32)
    (n : Fin 100000) (k : Fin 16) (e : Fin 32) :
    maximumf (addf (Host.dotGeneral dot_S100000x16x32_S32x32_S100000x16x32_2_0_01_1_n_n none v w)
        (broadcastInDim S100000x16x32 ![0, 1, 2] bcast_S1x1x32_S100000x16x32_0_1_2 (broadcastInDim S1x1x32 ![2] bcast_S32_S1x1x32_2 b)))
      (broadcastInDim S100000x16x32 ![] bcast_S_S100000x16x32 (constant S_ .f32 0x00000000#32)) (ix3 n k e)
      = layer (fun q e => w (ix2 q e)) (fun e => b (ix1 e)) (fun q => v (ix3 n k q)) e := by
  pointwise [layer]

/-- The last dense layer. -/
theorem last_apply (v : FVec Ideal S100000x16x32 .f32) (w : FVec Ideal S32x16 .f32) (b : FVec Ideal S16 .f32)
    (n : Fin 100000) (k : Fin 16) (e : Fin 16) :
    maximumf (addf (Host.dotGeneral dot_S100000x16x32_S32x16_S100000x16x16_2_0_01_1_n_n none v w)
        (broadcastInDim S100000x16x16 ![0, 1, 2] bcast_S1x1x16_S100000x16x16_0_1_2 (broadcastInDim S1x1x16 ![2] bcast_S16_S1x1x16_2 b)))
      (broadcastInDim S100000x16x16 ![] bcast_S_S100000x16x16 (constant S_ .f32 0x00000000#32)) (ix3 n k e)
      = layer (fun q e => w (ix2 q e)) (fun e => b (ix1 e)) (fun q => v (ix3 n k q)) e := by
  pointwise [layer]

/-- The two features of a slot, side by side. -/
theorem pair_apply (v w : FVec Ideal S100000x16x1 .f32) (n : Fin 100000) (k : Fin 16) (q : Fin 2) :
    concatenate S100000x16x2 2 [⟨S100000x16x1, v⟩, ⟨S100000x16x1, w⟩] concatenates_S100000x16x1_S100000x16x1_S100000x16x2_d2 (ix3 n k q)
      = if q.val < 1 then v (ix3 n k 0) else w (ix3 n k 0) := by
  pointwise
  have h0 : ∀ a : Fin 1, a = 0 := fun a => Subsingleton.elim _ _
  by_cases h : q.val < 1
  · rw [dif_pos h, if_pos h, h0 ⟨q.val, h⟩]
  · rw [dif_neg h, if_neg h, h0 ⟨q.val - 1, _⟩]

/-- An array with a last axis of one entry, at an index. -/
theorem unsqueeze_apply (v : FVec Ideal S100000x16 .f32) (n : Fin 100000) (k : Fin 16) :
    broadcastInDim S100000x16x1 ![0, 1] bcast_S100000x16_S100000x16x1_0_1 v (ix3 n k 0) = v (ix2 n k) := by
  pointwise

section
variable (val : FVec Ideal S100000x16x1 .f32) (ev : FVec Ideal S100000x16 .f32)
  (wa : FVec Ideal S2x32 .f32) (ba : FVec Ideal S32 .f32) (w1 : FVec Ideal S32x32 .f32) (b1 : FVec Ideal S32 .f32)
  (w2 : FVec Ideal S32x32 .f32) (b2 : FVec Ideal S32 .f32) (w3 : FVec Ideal S32x16 .f32) (b3 : FVec Ideal S16 .f32)
  (n : Fin 100000) (k : Fin 16)

/-- The slot's two features. -/
theorem pair_eq (q : Fin 2) : val_main_v94 (F := Ideal) val ev (ix3 n k q) = if q.val < 1 then ev (ix2 n k) else val (ix3 n k 0) :=
  (pair_apply _ val n k q).trans (by rw [show val_main_v93 (F := Ideal) ev (ix3 n k 0) = ev (ix2 n k) from unsqueeze_apply ev n k])

/-- No number differs from itself. -/
theorem mask_eq (i : S100000x16x2.Idx) : val_main_v95 (F := Ideal) val ev i = 0#1 := by
  rw [val_main_v95_apply]
  generalize val_main_v94 (F := Ideal) val ev i = t
  simp [FloatOps.cmpf, Ideal.cmp]

/-- Replacing what differs from itself changes nothing. -/
theorem clean_eq (i : S100000x16x2.Idx) : val_main_v96 (F := Ideal) val ev i = val_main_v94 (F := Ideal) val ev i := by
  rw [val_main_v96_apply, mask_eq]
  rfl

/-- The four dense layers on one slot. -/
theorem node_eq (p : Fin 16) : val_main_v116 (F := Ideal) val ev wa ba w1 b1 w2 b2 w3 b3 (ix3 n k p)
    = layer (fun q e => w3 (ix2 q e)) (fun e => b3 (ix1 e))
        (layer (fun q e => w2 (ix2 q e)) (fun e => b2 (ix1 e))
          (layer (fun q e => w1 (ix2 q e)) (fun e => b1 (ix1 e))
            (layer (fun q e => wa (ix2 q e)) (fun e => ba (ix1 e))
              (fun q : Fin 2 => if q.val < 1 then ev (ix2 n k) else val (ix3 n k 0))))) p := by
  refine (last_apply (val_main_v111 (F := Ideal) val ev wa ba w1 b1 w2 b2) w3 b3 n k p).trans ?_
  refine layer_congr (fun _ => rfl) rfl fun q => ?_
  refine (middle_apply (val_main_v106 (F := Ideal) val ev wa ba w1 b1) w2 b2 n k q).trans ?_
  refine layer_congr (fun _ => rfl) rfl fun q => ?_
  refine (middle_apply (val_main_v101 (F := Ideal) val ev wa ba) w1 b1 n k q).trans ?_
  refine layer_congr (fun _ => rfl) rfl fun q => ?_
  refine (first_apply (val_main_v96 (F := Ideal) val ev) wa ba n k q).trans ?_
  refine layer_congr (fun _ => rfl) rfl fun q => ?_
  exact (clean_eq val ev _).trans (pair_eq val ev n k q)

/-- Masking what differs from itself changes nothing. -/
theorem kept_eq (i : S100000x16x16.Idx) : val_main_v118 (F := Ideal) val ev wa ba w1 b1 w2 b2 w3 b3 i
    = val_main_v116 (F := Ideal) val ev wa ba w1 b1 w2 b2 w3 b3 i := by
  rw [val_main_v118_apply, val_main_call26_v1_apply, val_main_v117_apply, mask_eq]
  rfl

/-- The sum over the slots of an array, at an index. -/
theorem slots_apply (v : FVec Ideal S100000x16x16 .f32) (n : Fin 100000) (p : Fin 16) :
    Host.reduceAdd v (constant S_ .f32 0x00000000#32) reducesTo_S100000x16x16_S100000x16_d1 h_S_ (ix2 n p)
      = ∑ k : Fin 16, v (ix3 n k p) := by
  pointwise

/-- The sum over the slots. -/
theorem slots_eq (p : Fin 16) : val_main_v119 (F := Ideal) val ev wa ba w1 b1 w2 b2 w3 b3 (ix2 n p)
    = ∑ k : Fin 16, val_main_v116 (F := Ideal) val ev wa ba w1 b1 w2 b2 w3 b3 (ix3 n k p) :=
  (slots_apply (val_main_v118 (F := Ideal) val ev wa ba w1 b1 w2 b2 w3 b3) n p).trans
    (Finset.sum_congr rfl fun k _ => kept_eq val ev wa ba w1 b1 w2 b2 w3 b3 _)

end

/-- The dense layer on the features. -/
theorem dense_apply (v : FVec Ideal S100000x128 .f32) (w : FVec Ideal S128x112 .f32) (b : FVec Ideal S112 .f32) (n : Fin 100000) (j : Fin 112) :
    addf (Host.dotGeneral dot_S100000x128_S128x112_S100000x112_1_0_0_1_n_n none v w)
        (broadcastInDim S100000x112 ![0, 1] bcast_S1x112_S100000x112_0_1 (broadcastInDim S1x112 ![1] bcast_S112_S1x112_1 b)) (ix2 n j)
      = (∑ k : Fin 128, v (ix2 n k) * w (ix2 k j)) + b (ix1 j) := by
  pointwise

/-- The two parts of the result, side by side. -/
theorem join_apply (v : FVec Ideal S100000x112 .f32) (w : FVec Ideal S100000x16 .f32) (n : Fin 100000) (j : Fin 128) :
    concatenate S100000x128 1 [⟨S100000x112, v⟩, ⟨S100000x16, w⟩] concatenates_S100000x112_S100000x16_S100000x128_d1 (ix2 n j)
      = if h : j.val < 112 then v (ix2 n ⟨j.val, h⟩) else w (ix2 n ⟨j.val - 112, by omega⟩) := by
  pointwise

end Cert.RefNode

end
-- ==== Proof.Equal.lean ====
module

public import proofs.«01_k».proof.Proof.Algebra
public import proofs.«01_k».proof.Proof.KernelArray
public import proofs.«01_k».proof.Proof.RefFeature
public import proofs.«01_k».proof.Proof.RefNode

@[expose] public section

set_option maxRecDepth 16384

noncomputable section

/-! The kernel's result and the reference's are equal at every index. -/

namespace Cert.Equal

open Idealize.ShloMosaic Cert.KernelIdeal Cert.HostTerm Cert.HostValue Cert.Algebra Cert.RefTake Cert.RefFeature Cert.KernelArray

/-- The real parts of rows 0 and 1 of some tables. -/
def reals {n : ℕ} (T : Fin n → Fin 2 → Fin 128 → EReal) : Fin n → Fin 2 → Fin 128 → ℝ := fun i b k => (T i b k).toReal

/-- No entry is infinite. -/
def Finite {n : ℕ} (T : Fin n → Fin 2 → Fin 128 → EReal) : Prop := ∀ i b k, T i b k ≠ ⊤ ∧ T i b k ≠ ⊥

/-- A finite entry is its real part. -/
theorem reals_eq {n : ℕ} (T : Fin n → Fin 2 → Fin 128 → EReal) (h : Finite T) (i : Fin n) (b : Fin 2) (k : Fin 128) :
    T i b k = ((reals T i b k : ℝ) : EReal) :=
  (EReal.coe_toReal (h i b k).1 (h i b k).2).symm

variable (x : IVec S100000x21 32) (b0 : FVec Ideal S5x128 .f32) (b1 : FVec Ideal S6x128 .f32) (b2 : FVec Ideal S3x128 .f32)
  (a0 : FVec Ideal S119x128 .f32) (a1 : FVec Ideal S4x128 .f32) (a2 a3 : FVec Ideal S12x128 .f32) (a4 : FVec Ideal S10x128 .f32)
  (a5 a6 : FVec Ideal S6x128 .f32) (a7 a8 : FVec Ideal S2x128 .f32)
  (wx : FVec Ideal S128x112 .f32) (bx : FVec Ideal S112 .f32)

/-- A bond table's difference row. -/
theorem bondDiff_eq (i : Fin 3) (k : Fin 128) :
    bondDiff b0 b1 b2 (ix2 i k) = bonds b0 b1 b2 i 1 k - bonds b0 b1 b2 i 0 k := by
  refine (bondDiff_apply b0 b1 b2 i k).trans ?_
  fin_cases i <;> rfl

/-- An atom table's difference row. -/
theorem atomDiff_eq (i : Fin 9) (k : Fin 128) :
    atomDiff a0 a1 a2 a3 a4 a5 a6 a7 a8 (ix2 i k)
      = atoms a0 a1 a2 a3 a4 a5 a6 a7 a8 i 1 k - atoms a0 a1 a2 a3 a4 a5 a6 a7 a8 i 0 k := by
  refine (atomDiff_apply a0 a1 a2 a3 a4 a5 a6 a7 a8 i k).trans ?_
  fin_cases i <;> rfl

section
variable (hb : Finite (bonds b0 b1 b2)) (ha : Finite (atoms a0 a1 a2 a3 a4 a5 a6 a7 a8))
include hb ha

/-- The difference rows are real. -/
theorem diffs_eq (i : Fin 21) (k : Fin 128) :
    diffs b0 b1 b2 a0 a1 a2 a3 a4 a5 a6 a7 a8 (ix2 i k)
      = ((diffRow (reals (bonds b0 b1 b2)) (reals (atoms a0 a1 a2 a3 a4 a5 a6 a7 a8)) i k : ℝ) : EReal) := by
  refine (diffs_apply b0 b1 b2 a0 a1 a2 a3 a4 a5 a6 a7 a8 i k).trans ?_
  unfold diffRow
  by_cases h : i.val < 3
  · rw [dif_pos h, dif_pos h, bondDiff_eq, reals_eq _ hb, reals_eq _ hb, ← EReal.coe_sub]
  · rw [dif_neg h, dif_neg h]
    by_cases h' : i.val < 12
    · rw [dif_pos h', dif_pos h', atomDiff_eq, reals_eq _ ha, reals_eq _ ha, ← EReal.coe_sub, ← EReal.coe_neg]
    · rw [dif_neg h', dif_neg h', atomDiff_eq, reals_eq _ ha, reals_eq _ ha, ← EReal.coe_sub]

/-- The reference's feature is real. -/
theorem feature_real (hx : RefFeat.Binary x) (n : Fin 100000) (k : Fin 128) :
    ReferenceIdeal.Read.val_main_v88 (F := Ideal) x b0 b1 b2 a0 a1 a2 a3 a4 a5 a6 a7 a8 (ix2 n k)
      = ((feature (reals (bonds b0 b1 b2)) (reals (atoms a0 a1 a2 a3 a4 a5 a6 a7 a8)) (fun i => bitRow (x (ix2 n i))) k : ℝ) : EReal) := by
  refine (feature_apply x hx b0 b1 b2 a0 a1 a2 a3 a4 a5 a6 a7 a8 n k).trans ?_
  unfold feature
  rw [EReal.coe_add, EReal.coe_sub, coe_sum, coe_sum, coe_sum]
  simp only [reals_eq _ hb, reals_eq _ ha]

omit hb ha in
/-- A category as a number. -/
theorem category_real (hx : RefFeat.Binary x) (n : Fin 100000) (i : Fin 21) :
    (FloatOps.sitofp .f32 (x (ix2 n i)) : Ideal .f32) = (((bitRow (x (ix2 n i))).val : ℝ) : EReal) := by
  show (((x (ix2 n i)).toInt : ℝ) : EReal) = _
  rcases hx n i with e | e <;> rw [e] <;> simp [bitRow]

/-- The first 112 columns. -/
theorem dense_eq (hx : RefFeat.Binary x) (hw : ∀ k j, wx (ix2 k j) ≠ ⊤ ∧ wx (ix2 k j) ≠ ⊥) (n : Fin 100000) (j : Fin 112) :
    (∑ i : Fin 21, (FloatOps.sitofp .f32 (x (ix2 n i)) : Ideal .f32)
        * ∑ k : Fin 128, diffs b0 b1 b2 a0 a1 a2 a3 a4 a5 a6 a7 a8 (ix2 i k) * wx (ix2 k j))
      + ((∑ k : Fin 128, (b0 (ix2 0 k) + b1 (ix2 0 k) + b2 (ix2 0 k)) * wx (ix2 k j)) + bx (ix1 j))
    = (∑ k : Fin 128, ReferenceIdeal.Read.val_main_v88 (F := Ideal) x b0 b1 b2 a0 a1 a2 a3 a4 a5 a6 a7 a8 (ix2 n k) * wx (ix2 k j)) + bx (ix1 j) := by
  have e := congrArg (fun r : ℝ => (r : EReal)) (weighted_eq (reals (bonds b0 b1 b2)) (reals (atoms a0 a1 a2 a3 a4 a5 a6 a7 a8))
    (fun i => bitRow (x (ix2 n i))) (fun k => (wx (ix2 k j) : EReal).toReal))
  have w : ∀ k, (wx (ix2 k j) : EReal) = (((wx (ix2 k j) : EReal).toReal : ℝ) : EReal) :=
    fun k => (EReal.coe_toReal (hw k j).1 (hw k j).2).symm
  have r0 : ∀ k, (b0 (ix2 0 k) : EReal) = ((reals (bonds b0 b1 b2) 0 0 k : ℝ) : EReal) := fun k => reals_eq _ hb 0 0 k
  have r1 : ∀ k, (b1 (ix2 0 k) : EReal) = ((reals (bonds b0 b1 b2) 1 0 k : ℝ) : EReal) := fun k => reals_eq _ hb 1 0 k
  have r2 : ∀ k, (b2 (ix2 0 k) : EReal) = ((reals (bonds b0 b1 b2) 2 0 k : ℝ) : EReal) := fun k => reals_eq _ hb 2 0 k
  refine (add_assoc _ _ _).symm.trans (congrArg (· + bx (ix1 j)) ?_)
  simp only [EReal.coe_add, EReal.coe_mul, coe_sum] at e
  have s1 : (∑ i : Fin 21, (FloatOps.sitofp .f32 (x (ix2 n i)) : Ideal .f32)
        * ∑ k : Fin 128, diffs b0 b1 b2 a0 a1 a2 a3 a4 a5 a6 a7 a8 (ix2 i k) * wx (ix2 k j)) = _ :=
    Finset.sum_congr rfl fun i _ => congrArg₂ (· * ·) (category_real x hx n i)
      (Finset.sum_congr rfl fun k _ => congrArg₂ (· * ·) (diffs_eq b0 b1 b2 a0 a1 a2 a3 a4 a5 a6 a7 a8 hb ha i k) (w k))
  have s2 : (∑ k : Fin 128, (b0 (ix2 0 k) + b1 (ix2 0 k) + b2 (ix2 0 k) : EReal) * wx (ix2 k j)) = _ :=
    Finset.sum_congr rfl fun k _ => congrArg₂ (· * ·)
      (congrArg₂ (· + ·) (congrArg₂ (· + ·) (r0 k) (r1 k)) (r2 k)) (w k)
  have s3 : (∑ k : Fin 128, (ReferenceIdeal.Read.val_main_v88 (F := Ideal) x b0 b1 b2 a0 a1 a2 a3 a4 a5 a6 a7 a8 (ix2 n k) : EReal) * wx (ix2 k j)) = _ :=
    Finset.sum_congr rfl fun k _ => congrArg₂ (· * ·) (feature_real x b0 b1 b2 a0 a1 a2 a3 a4 a5 a6 a7 a8 hb ha hx n k) (w k)
  exact (congrArg₂ (· + ·) s1 s2).trans (e.trans s3.symm)

/-- The kernel's result and the reference's, at an index. -/
theorem result_eq (hx : RefFeat.Binary x) (hw : ∀ k j, wx (ix2 k j) ≠ ⊤ ∧ wx (ix2 k j) ≠ ⊥)
    (val : FVec Ideal S100000x16x1 .f32) (ev : FVec Ideal S100000x16 .f32) (wa : FVec Ideal S2x32 .f32) (ba : FVec Ideal S32 .f32)
    (w1 : FVec Ideal S32x32 .f32) (c1 : FVec Ideal S32 .f32) (w2 : FVec Ideal S32x32 .f32) (c2 : FVec Ideal S32 .f32)
    (w3 : FVec Ideal S32x16 .f32) (c3 : FVec Ideal S16 .f32) (n : Fin 100000) (j : Fin 128) :
    kout x val ev b0 b1 b2 a0 a1 a2 a3 a4 a5 a6 a7 a8 wa ba w1 c1 w2 c2 w3 c3 wx bx n j
      = ReferenceIdeal.Read.val_main_v120 (F := Ideal) x val ev b0 b1 b2 a0 a1 a2 a3 a4 a5 a6 a7 a8 wa ba w1 c1 w2 c2 w3 c3 wx bx (ix2 n j) := by
  refine Eq.trans ?_ (RefNode.join_apply _ _ n j).symm
  unfold kout
  by_cases h : j.val < 112
  · rw [dif_pos h, dif_pos h, add_zero]
    refine Eq.trans ?_ (RefNode.dense_apply _ wx bx n ⟨j.val, h⟩).symm
    refine Eq.trans ?_ (dense_eq x b0 b1 b2 a0 a1 a2 a3 a4 a5 a6 a7 a8 wx bx hb ha hx hw n ⟨j.val, h⟩)
    refine congrArg₂ (· + ·) (Finset.sum_congr rfl fun i _ => congrArg _ ?_) ?_
    · exact (wemb_apply b0 b1 b2 a0 a1 a2 a3 a4 a5 a6 a7 a8 wx i j).trans (dif_pos h)
    · exact (bias_apply b0 b1 b2 wx bx j).trans (dif_pos h)
  · rw [dif_neg h, dif_neg h]
    refine Eq.trans ?_ (RefNode.slots_eq val ev wa ba w1 c1 w2 c2 w3 c3 n ⟨j.val - 112, by omega⟩).symm
    have z : (∑ i : Fin 21, (FloatOps.sitofp .f32 (x (ix2 n i)) : Ideal .f32)
        * wemb b0 b1 b2 a0 a1 a2 a3 a4 a5 a6 a7 a8 wx (ix2 i j)) = (0 : EReal) :=
      Finset.sum_eq_zero fun i _ =>
        (congrArg _ ((wemb_apply b0 b1 b2 a0 a1 a2 a3 a4 a5 a6 a7 a8 wx i j).trans (dif_neg h))).trans (mul_zero (M₀ := EReal) _)
    have z' : bias b0 b1 b2 wx bx (ix2 0 j) = (0 : EReal) := (bias_apply b0 b1 b2 wx bx j).trans (dif_neg h)
    refine (congrArg₂ (· + ·) ((congrArg₂ (· + ·) z z').trans (add_zero (0 : EReal))) rfl).trans ((zero_add _).trans ?_)
    exact Finset.sum_congr rfl fun k _ => (RefNode.node_eq val ev wa ba w1 c1 w2 c2 w3 c3 n k ⟨j.val - 112, by omega⟩).symm

/-- The kernel's result and the reference's, as arrays. -/
theorem array_eq (hx : RefFeat.Binary x) (hw : ∀ k j, wx (ix2 k j) ≠ ⊤ ∧ wx (ix2 k j) ≠ ⊥)
    (val : FVec Ideal S100000x16x1 .f32) (ev : FVec Ideal S100000x16 .f32) (wa : FVec Ideal S2x32 .f32) (ba : FVec Ideal S32 .f32)
    (w1 : FVec Ideal S32x32 .f32) (c1 : FVec Ideal S32 .f32) (w2 : FVec Ideal S32x32 .f32) (c2 : FVec Ideal S32 .f32)
    (w3 : FVec Ideal S32x16 .f32) (c3 : FVec Ideal S16 .f32) (v : FVec Ideal S100000x128 .f32)
    (hv : ∀ n j, v (ix2 n j) = kout x val ev b0 b1 b2 a0 a1 a2 a3 a4 a5 a6 a7 a8 wa ba w1 c1 w2 c2 w3 c3 wx bx n j) :
    v = ReferenceIdeal.Read.val_main_v120 (F := Ideal) x val ev b0 b1 b2 a0 a1 a2 a3 a4 a5 a6 a7 a8 wa ba w1 c1 w2 c2 w3 c3 wx bx := by
  funext i
  idx_vars i
  exact (hv _ _).trans (result_eq x b0 b1 b2 a0 a1 a2 a3 a4 a5 a6 a7 a8 wx bx hb ha hx hw val ev wa ba w1 c1 w2 c2 w3 c3 _ _)

end

end Cert.Equal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Given
public import proofs.«01_k».proof.Proof.Equal
public import Idealize.ShloMosaic.Lib.Quiescent
public import Idealize.ShloMosaic.Adequacy
public import Idealize.ShloMosaic.Init

@[expose] public section

set_option maxRecDepth 16384

noncomputable section

/-! The claims: the three programs run and leave their arguments and every counter as they were, the idealized kernel is the
    kernel, and the idealized kernel's result is the reference's. -/

namespace Cert.Proof

open Idealize.ShloMosaic Idealize.SL.Sem

/-- The kernel runs. -/
theorem kernel_runs : Cert.quiescent_Kernel (hKernel := Cert.Kernel.Gen.facts) := fun m g _ => Cert.Kernel.Gen.frame m g

/-- The idealized kernel runs. -/
theorem ideal_runs : Cert.quiescent_KernelIdeal (hKernelIdeal := Cert.KernelIdeal.Gen.facts) := fun m g _ => Cert.KernelIdeal.Gen.frame m g

/-- The idealized kernel runs on the inputs of the precondition. -/
theorem ideal_runs_given : Cert.quiescent_KernelIdeal_pre_binary_categories (hKernelIdeal := Cert.KernelIdeal.Gen.facts)
    (hPre_binary_categories := Cert.Given.facts) := fun m g _ => Cert.KernelIdeal.Gen.frame m g

/-- The reference runs. -/
theorem reference_runs : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The reference runs on the inputs of the precondition. -/
theorem reference_runs_given : Cert.quiescent_ReferenceIdeal_pre_binary_categories (hReferenceIdeal := Cert.ReferenceIdeal.Gen.facts)
    (hPre_binary_categories := Cert.Given.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- On the inputs of the precondition, the array the idealized kernel leaves is the reference's term of the same arguments. -/
theorem array_eq (m : (ℓ : Loc Cert.KernelIdeal.nD Cert.KernelIdeal.τ Cert.KernelIdeal.sig) → Buf (Elt Ideal) ℓ)
    (h : Cert.Pre_KernelIdeal_binary_categories (hPre_binary_categories := Cert.Given.facts) m) (c : Dev Cert.KernelIdeal.nD) :
    (Cert.KernelIdeal.Gen.dats m 0 c).arrAt 14 Cert.KernelIdeal.cfg0.N
      = Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) := by
  obtain ⟨hx, hb, ha, hw⟩ := Cert.Given.given _ _ _ _ _ _ _ _ _ _ _ _ _ _ _ _ _ _ _ _ _ _ _ _ _ (h c)
  exact Cert.Equal.array_eq (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) hb ha hx hw (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) _ (Cert.KernelArray.array_apply m c)

/-- The reference's terms of equal arguments are equal. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21) ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22) ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23) ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Read.val_main_v120 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) = Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) := by
  obtain ⟨e0, e1, e2, e3, e4, e5, e6, e7, e8, e9, e10, e11, e12, e13, e14, e15, e16, e17, e18, e19, e20, e21, e22, e23, e24⟩ := h
  rw [e0, e1, e2, e3, e4, e5, e6, e7, e8, e9, e10, e11, e12, e13, e14, e15, e16, e17, e18, e19, e20, e21, e22, e23, e24]

/-- The idealized kernel's result is the reference's. -/
theorem equal : Cert.algebraic_KernelIdeal_ReferenceIdeal_pre_binary_categories (hKernelIdeal := Cert.KernelIdeal.Gen.facts)
    (hReferenceIdeal := Cert.ReferenceIdeal.Gen.facts) (hPre_binary_categories := Cert.Given.facts) := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  refine (Cert.ReferenceIdeal.Read.val_main_v120_eq (F := Ideal) (StableHlo.launchContents m' c)).trans ((agree m m' c (hagree c)).trans (array_eq m hpre c).symm)

/-- All the claims. -/
theorem claim : Cert.Claim :=
  ⟨Cert.Kernel.Gen.facts, Cert.KernelIdeal.Gen.facts, Cert.ReferenceIdeal.Gen.facts, Cert.Given.facts,
    kernel_runs, ideal_runs, ideal_runs_given, reference_runs, reference_runs_given, trivial, equal⟩

end Cert.Proof

end
